-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleIdeal_finite [hPre_finite : Cert.Pre_finite.Facts] (m : (ℓ : Loc Cert.MiddleIdeal.nD Cert.MiddleIdeal.τ Cert.MiddleIdeal.sig) → Buf (Elt Ideal) ℓ) : Prop :=
  ∀ c : Dev Cert.MiddleIdeal.nD,
    (Cert.Pre_finite.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11)) (m ((c.tc : Thread Cert.MiddleIdeal.nD Cert.MiddleIdeal.τ).loc Cert.MiddleIdeal.main_arg12))) = (fun _ => 1#1)

def Pre_MiddleRefIdeal (m : (ℓ : Loc Cert.MiddleRefIdeal.nD Cert.MiddleRefIdeal.τ Cert.MiddleRefIdeal.sig) → Buf (Elt Ideal) ℓ) : Prop :=
  True

def Pre_MiddleRefIdeal_finite [hPre_finite : Cert.Pre_finite.Facts] (m : (ℓ : Loc Cert.MiddleRefIdeal.nD Cert.MiddleRefIdeal.τ Cert.MiddleRefIdeal.sig) → Buf (Elt Ideal) ℓ) : Prop :=
  ∀ c : Dev Cert.MiddleRefIdeal.nD,
    (Cert.Pre_finite.fn (F := Ideal) (m ((c.tc : Thread Cert.MiddleRefIdeal.nD Cert.MiddleRefIdeal.τ).loc Cert.MiddleRefIdeal.main_arg0)) (m ((c.tc : Thread Cert.MiddleRefIdeal.nD Cert.MiddleRefIdeal.τ).loc Cert.MiddleRefIdeal.main_arg1)) (m ((c.tc : Thread Cert.MiddleRefIdeal.nD Cert.MiddleRefIdeal.τ).loc Cert.MiddleRefIdeal.main_arg2)) (m ((c.tc : Thread Cert.MiddleRefIdeal.nD Cert.MiddleRefIdeal.τ).loc Cert.MiddleRefIdeal.main_arg3)) (m ((c.tc : Thread Cert.MiddleRefIdeal.nD Cert.MiddleRefIdeal.τ).loc Cert.MiddleRefIdeal.main_arg4)) (m ((c.tc : Thread Cert.MiddleRefIdeal.nD Cert.MiddleRefIdeal.τ).loc Cert.MiddleRefIdeal.main_arg5)) (m ((c.tc : Thread Cert.MiddleRefIdeal.nD Cert.MiddleRefIdeal.τ).loc Cert.MiddleRefIdeal.main_arg6)) (m ((c.tc : Thread Cert.MiddleRefIdeal.nD Cert.MiddleRefIdeal.τ).loc Cert.MiddleRefIdeal.main_arg7)) (m ((c.tc : Thread Cert.MiddleRefIdeal.nD Cert.MiddleRefIdeal.τ).loc Cert.MiddleRefIdeal.main_arg8)) (m ((c.tc : Thread Cert.MiddleRefIdeal.nD Cert.MiddleRefIdeal.τ).loc Cert.MiddleRefIdeal.main_arg9)) (m ((c.tc : Thread Cert.MiddleRefIdeal.nD Cert.MiddleRefIdeal.τ).loc Cert.MiddleRefIdeal.main_arg10)) (m ((c.tc : Thread Cert.MiddleRefIdeal.nD Cert.MiddleRefIdeal.τ).loc Cert.MiddleRefIdeal.main_arg11)) (m ((c.tc : Thread Cert.MiddleRefIdeal.nD Cert.MiddleRefIdeal.τ).loc Cert.MiddleRefIdeal.main_arg12))) = (fun _ => 1#1)

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8)
      ∧ r.2.mem ((c.tc : Thread Cert.Middle.nD Cert.Middle.τ).loc Cert.Middle.main_arg9) = m ((c.tc : Thread Cert.Middle.nD Cert.Middle.τ).loc Cert.Middle.main_arg9)
      ∧ r.2.mem ((c.tc : Thread Cert.Middle.nD Cert.Middle.τ).loc Cert.Middle.main_arg10) = m ((c.tc : Thread Cert.Middle.nD Cert.Middle.τ).loc Cert.Middle.main_arg10)
      ∧ r.2.mem ((c.tc : Thread Cert.Middle.nD Cert.Middle.τ).loc Cert.Middle.main_arg11) = m ((c.tc : Thread Cert.Middle.nD Cert.Middle.τ).loc Cert.Middle.main_arg11)
      ∧ r.2.mem ((c.tc : Thread Cert.Middle.nD Cert.Middle.τ).loc Cert.Middle.main_arg12) = m ((c.tc : Thread Cert.Middle.nD Cert.Middle.τ).loc Cert.Middle.main_arg12))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
      ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12))
      ∧ r.2.sem = fun _ => 0)

def quiescent_MiddleIdeal_pre_finite [hMiddleIdeal : Cert.MiddleIdeal.Facts] [hPre_finite : Cert.Pre_finite.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal_finite m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
      ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12))
      ∧ r.2.sem = fun _ => 0)

def quiescent_MiddleRefIdeal [hMiddleRefIdeal : Cert.MiddleRefIdeal.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3)
      ∧ r.2.mem ((c.tc : Thread Cert.MiddleRefIdeal.nD Cert.MiddleRefIdeal.τ).loc Cert.MiddleRefIdeal.main_arg4) = m ((c.tc : Thread Cert.MiddleRefIdeal.nD Cert.MiddleRefIdeal.τ).loc Cert.MiddleRefIdeal.main_arg4)
      ∧ r.2.mem ((c.tc : Thread Cert.MiddleRefIdeal.nD Cert.MiddleRefIdeal.τ).loc Cert.MiddleRefIdeal.main_arg5) = m ((c.tc : Thread Cert.MiddleRefIdeal.nD Cert.MiddleRefIdeal.τ).loc Cert.MiddleRefIdeal.main_arg5)
      ∧ r.2.mem ((c.tc : Thread Cert.MiddleRefIdeal.nD Cert.MiddleRefIdeal.τ).loc Cert.MiddleRefIdeal.main_arg6) = m ((c.tc : Thread Cert.MiddleRefIdeal.nD Cert.MiddleRefIdeal.τ).loc Cert.MiddleRefIdeal.main_arg6)
      ∧ r.2.mem ((c.tc : Thread Cert.MiddleRefIdeal.nD Cert.MiddleRefIdeal.τ).loc Cert.MiddleRefIdeal.main_arg7) = m ((c.tc : Thread Cert.MiddleRefIdeal.nD Cert.MiddleRefIdeal.τ).loc Cert.MiddleRefIdeal.main_arg7)
      ∧ r.2.mem ((c.tc : Thread Cert.MiddleRefIdeal.nD Cert.MiddleRefIdeal.τ).loc Cert.MiddleRefIdeal.main_arg8) = m ((c.tc : Thread Cert.MiddleRefIdeal.nD Cert.MiddleRefIdeal.τ).loc Cert.MiddleRefIdeal.main_arg8)
      ∧ r.2.mem ((c.tc : Thread Cert.MiddleRefIdeal.nD Cert.MiddleRefIdeal.τ).loc Cert.MiddleRefIdeal.main_arg9) = m ((c.tc : Thread Cert.MiddleRefIdeal.nD Cert.MiddleRefIdeal.τ).loc Cert.MiddleRefIdeal.main_arg9)
      ∧ r.2.mem ((c.tc : Thread Cert.MiddleRefIdeal.nD Cert.MiddleRefIdeal.τ).loc Cert.MiddleRefIdeal.main_arg10) = m ((c.tc : Thread Cert.MiddleRefIdeal.nD Cert.MiddleRefIdeal.τ).loc Cert.MiddleRefIdeal.main_arg10)
      ∧ r.2.mem ((c.tc : Thread Cert.MiddleRefIdeal.nD Cert.MiddleRefIdeal.τ).loc Cert.MiddleRefIdeal.main_arg11) = m ((c.tc : Thread Cert.MiddleRefIdeal.nD Cert.MiddleRefIdeal.τ).loc Cert.MiddleRefIdeal.main_arg11)
      ∧ r.2.mem ((c.tc : Thread Cert.MiddleRefIdeal.nD Cert.MiddleRefIdeal.τ).loc Cert.MiddleRefIdeal.main_arg12) = m ((c.tc : Thread Cert.MiddleRefIdeal.nD Cert.MiddleRefIdeal.τ).loc Cert.MiddleRefIdeal.main_arg12))
      ∧ r.2.sem = fun _ => 0)

def quiescent_MiddleRefIdeal_pre_finite [hMiddleRefIdeal : Cert.MiddleRefIdeal.Facts] [hPre_finite : Cert.Pre_finite.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal_finite m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3)
      ∧ r.2.mem ((c.tc : Thread Cert.MiddleRefIdeal.nD Cert.MiddleRefIdeal.τ).loc Cert.MiddleRefIdeal.main_arg4) = m ((c.tc : Thread Cert.MiddleRefIdeal.nD Cert.MiddleRefIdeal.τ).loc Cert.MiddleRefIdeal.main_arg4)
      ∧ r.2.mem ((c.tc : Thread Cert.MiddleRefIdeal.nD Cert.MiddleRefIdeal.τ).loc Cert.MiddleRefIdeal.main_arg5) = m ((c.tc : Thread Cert.MiddleRefIdeal.nD Cert.MiddleRefIdeal.τ).loc Cert.MiddleRefIdeal.main_arg5)
      ∧ r.2.mem ((c.tc : Thread Cert.MiddleRefIdeal.nD Cert.MiddleRefIdeal.τ).loc Cert.MiddleRefIdeal.main_arg6) = m ((c.tc : Thread Cert.MiddleRefIdeal.nD Cert.MiddleRefIdeal.τ).loc Cert.MiddleRefIdeal.main_arg6)
      ∧ r.2.mem ((c.tc : Thread Cert.MiddleRefIdeal.nD Cert.MiddleRefIdeal.τ).loc Cert.MiddleRefIdeal.main_arg7) = m ((c.tc : Thread Cert.MiddleRefIdeal.nD Cert.MiddleRefIdeal.τ).loc Cert.MiddleRefIdeal.main_arg7)
      ∧ r.2.mem ((c.tc : Thread Cert.MiddleRefIdeal.nD Cert.MiddleRefIdeal.τ).loc Cert.MiddleRefIdeal.main_arg8) = m ((c.tc : Thread Cert.MiddleRefIdeal.nD Cert.MiddleRefIdeal.τ).loc Cert.MiddleRefIdeal.main_arg8)
      ∧ r.2.mem ((c.tc : Thread Cert.MiddleRefIdeal.nD Cert.MiddleRefIdeal.τ).loc Cert.MiddleRefIdeal.main_arg9) = m ((c.tc : Thread Cert.MiddleRefIdeal.nD Cert.MiddleRefIdeal.τ).loc Cert.MiddleRefIdeal.main_arg9)
      ∧ r.2.mem ((c.tc : Thread Cert.MiddleRefIdeal.nD Cert.MiddleRefIdeal.τ).loc Cert.MiddleRefIdeal.main_arg10) = m ((c.tc : Thread Cert.MiddleRefIdeal.nD Cert.MiddleRefIdeal.τ).loc Cert.MiddleRefIdeal.main_arg10)
      ∧ r.2.mem ((c.tc : Thread Cert.MiddleRefIdeal.nD Cert.MiddleRefIdeal.τ).loc Cert.MiddleRefIdeal.main_arg11) = m ((c.tc : Thread Cert.MiddleRefIdeal.nD Cert.MiddleRefIdeal.τ).loc Cert.MiddleRefIdeal.main_arg11)
      ∧ r.2.mem ((c.tc : Thread Cert.MiddleRefIdeal.nD Cert.MiddleRefIdeal.τ).loc Cert.MiddleRefIdeal.main_arg12) = m ((c.tc : Thread Cert.MiddleRefIdeal.nD Cert.MiddleRefIdeal.τ).loc Cert.MiddleRefIdeal.main_arg12))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def preserves_Kernel_KernelIdeal : Prop :=
  True

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)
      ∧ m' ((c.tc : Thread Cert.FinalRefIdeal.nD Cert.FinalRefIdeal.τ).loc Cert.FinalRefIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v9)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v9) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v83) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v4_0)) (v1 : (c : Dev Cert.FirstIdeal.nD) → Buf (Elt Ideal) ((c.tc : Thread Cert.FirstIdeal.nD Cert.FirstIdeal.τ).loc Cert.FirstIdeal.main_v4_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4_0) = v0 c
          ∧ r.2.mem ((c.tc : Thread Cert.FirstIdeal.nD Cert.FirstIdeal.τ).loc Cert.FirstIdeal.main_v4_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v85) = v0 c
          ∧ r.2.mem ((c.tc : Thread Cert.FirstRefIdeal.nD Cert.FirstRefIdeal.τ).loc Cert.FirstRefIdeal.main_v86) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Middle_MiddleIdeal : Prop :=
  True

def algebraic_MiddleIdeal_MiddleRefIdeal_pre_finite [hMiddleIdeal : Cert.MiddleIdeal.Facts] [hMiddleRefIdeal : Cert.MiddleRefIdeal.Facts] [hPre_finite : Cert.Pre_finite.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleRefIdeal.nD Cert.MiddleRefIdeal.τ Cert.MiddleRefIdeal.sig) → Buf (Elt Ideal) ℓ) (g' : Dev Cert.MiddleRefIdeal.nD → PrngReg), Pre_MiddleIdeal_finite m →
    (∀ c : Dev Cert.MiddleIdeal.nD,
      m' ((c.tc : Thread Cert.MiddleRefIdeal.nD Cert.MiddleRefIdeal.τ).loc Cert.MiddleRefIdeal.main_arg0) = m ((c.tc : Thread Cert.MiddleIdeal.nD Cert.MiddleIdeal.τ).loc Cert.MiddleIdeal.main_arg0)
      ∧ m' ((c.tc : Thread Cert.MiddleRefIdeal.nD Cert.MiddleRefIdeal.τ).loc Cert.MiddleRefIdeal.main_arg1) = m ((c.tc : Thread Cert.MiddleIdeal.nD Cert.MiddleIdeal.τ).loc Cert.MiddleIdeal.main_arg1)
      ∧ m' ((c.tc : Thread Cert.MiddleRefIdeal.nD Cert.MiddleRefIdeal.τ).loc Cert.MiddleRefIdeal.main_arg2) = m ((c.tc : Thread Cert.MiddleIdeal.nD Cert.MiddleIdeal.τ).loc Cert.MiddleIdeal.main_arg2)
      ∧ m' ((c.tc : Thread Cert.MiddleRefIdeal.nD Cert.MiddleRefIdeal.τ).loc Cert.MiddleRefIdeal.main_arg3) = m ((c.tc : Thread Cert.MiddleIdeal.nD Cert.MiddleIdeal.τ).loc Cert.MiddleIdeal.main_arg3)
      ∧ m' ((c.tc : Thread Cert.MiddleRefIdeal.nD Cert.MiddleRefIdeal.τ).loc Cert.MiddleRefIdeal.main_arg4) = m ((c.tc : Thread Cert.MiddleIdeal.nD Cert.MiddleIdeal.τ).loc Cert.MiddleIdeal.main_arg4)
      ∧ m' ((c.tc : Thread Cert.MiddleRefIdeal.nD Cert.MiddleRefIdeal.τ).loc Cert.MiddleRefIdeal.main_arg5) = m ((c.tc : Thread Cert.MiddleIdeal.nD Cert.MiddleIdeal.τ).loc Cert.MiddleIdeal.main_arg5)
      ∧ m' ((c.tc : Thread Cert.MiddleRefIdeal.nD Cert.MiddleRefIdeal.τ).loc Cert.MiddleRefIdeal.main_arg6) = m ((c.tc : Thread Cert.MiddleIdeal.nD Cert.MiddleIdeal.τ).loc Cert.MiddleIdeal.main_arg6)
      ∧ m' ((c.tc : Thread Cert.MiddleRefIdeal.nD Cert.MiddleRefIdeal.τ).loc Cert.MiddleRefIdeal.main_arg7) = m ((c.tc : Thread Cert.MiddleIdeal.nD Cert.MiddleIdeal.τ).loc Cert.MiddleIdeal.main_arg7)
      ∧ m' ((c.tc : Thread Cert.MiddleRefIdeal.nD Cert.MiddleRefIdeal.τ).loc Cert.MiddleRefIdeal.main_arg8) = m ((c.tc : Thread Cert.MiddleIdeal.nD Cert.MiddleIdeal.τ).loc Cert.MiddleIdeal.main_arg8)
      ∧ m' ((c.tc : Thread Cert.MiddleRefIdeal.nD Cert.MiddleRefIdeal.τ).loc Cert.MiddleRefIdeal.main_arg9) = m ((c.tc : Thread Cert.MiddleIdeal.nD Cert.MiddleIdeal.τ).loc Cert.MiddleIdeal.main_arg9)
      ∧ m' ((c.tc : Thread Cert.MiddleRefIdeal.nD Cert.MiddleRefIdeal.τ).loc Cert.MiddleRefIdeal.main_arg10) = m ((c.tc : Thread Cert.MiddleIdeal.nD Cert.MiddleIdeal.τ).loc Cert.MiddleIdeal.main_arg10)
      ∧ m' ((c.tc : Thread Cert.MiddleRefIdeal.nD Cert.MiddleRefIdeal.τ).loc Cert.MiddleRefIdeal.main_arg11) = m ((c.tc : Thread Cert.MiddleIdeal.nD Cert.MiddleIdeal.τ).loc Cert.MiddleIdeal.main_arg11)
      ∧ m' ((c.tc : Thread Cert.MiddleRefIdeal.nD Cert.MiddleRefIdeal.τ).loc Cert.MiddleRefIdeal.main_arg12) = m ((c.tc : Thread Cert.MiddleIdeal.nD Cert.MiddleIdeal.τ).loc Cert.MiddleIdeal.main_arg12)) →
    ∃ (v0 : (c : Dev Cert.MiddleIdeal.nD) → Buf (Elt Ideal) ((c.tc : Thread Cert.MiddleIdeal.nD Cert.MiddleIdeal.τ).loc Cert.MiddleIdeal.main_v14)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v14) = v0 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
          ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
          ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
          ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
          ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12))
      ∧ θ_run (Cert.MiddleRefIdeal.defs (F := Ideal)) (onTc (τ := Cert.MiddleRefIdeal.τ) (Cert.MiddleRefIdeal.main (F := Ideal))) ⟨m', fun _ => 0, g'⟩ (fun r => ∀ c : Dev Cert.MiddleRefIdeal.nD,
          r.2.mem ((c.tc : Thread Cert.MiddleRefIdeal.nD Cert.MiddleRefIdeal.τ).loc Cert.MiddleRefIdeal.main_v108) = v0 c
          ∧ r.2.mem ((c.tc : Thread Cert.MiddleRefIdeal.nD Cert.MiddleRefIdeal.τ).loc Cert.MiddleRefIdeal.main_arg0) = m' ((c.tc : Thread Cert.MiddleRefIdeal.nD Cert.MiddleRefIdeal.τ).loc Cert.MiddleRefIdeal.main_arg0)
          ∧ r.2.mem ((c.tc : Thread Cert.MiddleRefIdeal.nD Cert.MiddleRefIdeal.τ).loc Cert.MiddleRefIdeal.main_arg1) = m' ((c.tc : Thread Cert.MiddleRefIdeal.nD Cert.MiddleRefIdeal.τ).loc Cert.MiddleRefIdeal.main_arg1)
          ∧ r.2.mem ((c.tc : Thread Cert.MiddleRefIdeal.nD Cert.MiddleRefIdeal.τ).loc Cert.MiddleRefIdeal.main_arg2) = m' ((c.tc : Thread Cert.MiddleRefIdeal.nD Cert.MiddleRefIdeal.τ).loc Cert.MiddleRefIdeal.main_arg2)
          ∧ r.2.mem ((c.tc : Thread Cert.MiddleRefIdeal.nD Cert.MiddleRefIdeal.τ).loc Cert.MiddleRefIdeal.main_arg3) = m' ((c.tc : Thread Cert.MiddleRefIdeal.nD Cert.MiddleRefIdeal.τ).loc Cert.MiddleRefIdeal.main_arg3)
          ∧ r.2.mem ((c.tc : Thread Cert.MiddleRefIdeal.nD Cert.MiddleRefIdeal.τ).loc Cert.MiddleRefIdeal.main_arg4) = m' ((c.tc : Thread Cert.MiddleRefIdeal.nD Cert.MiddleRefIdeal.τ).loc Cert.MiddleRefIdeal.main_arg4)
          ∧ r.2.mem ((c.tc : Thread Cert.MiddleRefIdeal.nD Cert.MiddleRefIdeal.τ).loc Cert.MiddleRefIdeal.main_arg5) = m' ((c.tc : Thread Cert.MiddleRefIdeal.nD Cert.MiddleRefIdeal.τ).loc Cert.MiddleRefIdeal.main_arg5)
          ∧ r.2.mem ((c.tc : Thread Cert.MiddleRefIdeal.nD Cert.MiddleRefIdeal.τ).loc Cert.MiddleRefIdeal.main_arg6) = m' ((c.tc : Thread Cert.MiddleRefIdeal.nD Cert.MiddleRefIdeal.τ).loc Cert.MiddleRefIdeal.main_arg6)
          ∧ r.2.mem ((c.tc : Thread Cert.MiddleRefIdeal.nD Cert.MiddleRefIdeal.τ).loc Cert.MiddleRefIdeal.main_arg7) = m' ((c.tc : Thread Cert.MiddleRefIdeal.nD Cert.MiddleRefIdeal.τ).loc Cert.MiddleRefIdeal.main_arg7)
          ∧ r.2.mem ((c.tc : Thread Cert.MiddleRefIdeal.nD Cert.MiddleRefIdeal.τ).loc Cert.MiddleRefIdeal.main_arg8) = m' ((c.tc : Thread Cert.MiddleRefIdeal.nD Cert.MiddleRefIdeal.τ).loc Cert.MiddleRefIdeal.main_arg8)
          ∧ r.2.mem ((c.tc : Thread Cert.MiddleRefIdeal.nD Cert.MiddleRefIdeal.τ).loc Cert.MiddleRefIdeal.main_arg9) = m' ((c.tc : Thread Cert.MiddleRefIdeal.nD Cert.MiddleRefIdeal.τ).loc Cert.MiddleRefIdeal.main_arg9)
          ∧ r.2.mem ((c.tc : Thread Cert.MiddleRefIdeal.nD Cert.MiddleRefIdeal.τ).loc Cert.MiddleRefIdeal.main_arg10) = m' ((c.tc : Thread Cert.MiddleRefIdeal.nD Cert.MiddleRefIdeal.τ).loc Cert.MiddleRefIdeal.main_arg10)
          ∧ r.2.mem ((c.tc : Thread Cert.MiddleRefIdeal.nD Cert.MiddleRefIdeal.τ).loc Cert.MiddleRefIdeal.main_arg11) = m' ((c.tc : Thread Cert.MiddleRefIdeal.nD Cert.MiddleRefIdeal.τ).loc Cert.MiddleRefIdeal.main_arg11)
          ∧ r.2.mem ((c.tc : Thread Cert.MiddleRefIdeal.nD Cert.MiddleRefIdeal.τ).loc Cert.MiddleRefIdeal.main_arg12) = m' ((c.tc : Thread Cert.MiddleRefIdeal.nD Cert.MiddleRefIdeal.τ).loc Cert.MiddleRefIdeal.main_arg12))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)) →
    ∃ (v0 : (c : Dev Cert.HyInIdeal.nD) → Buf (Elt Ideal) ((c.tc : Thread Cert.HyInIdeal.nD Cert.HyInIdeal.τ).loc Cert.HyInIdeal.main_v5_0)) (v1 : (c : Dev Cert.HyInIdeal.nD) → Buf (Elt Ideal) ((c.tc : Thread Cert.HyInIdeal.nD Cert.HyInIdeal.τ).loc Cert.HyInIdeal.main_v5_1)) (v2 : (c : Dev Cert.HyInIdeal.nD) → Buf (Elt Ideal) ((c.tc : Thread Cert.HyInIdeal.nD Cert.HyInIdeal.τ).loc Cert.HyInIdeal.main_v5_2)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v5_0) = v0 c
          ∧ r.2.mem ((c.tc : Thread Cert.HyInIdeal.nD Cert.HyInIdeal.τ).loc Cert.HyInIdeal.main_v5_1) = v1 c
          ∧ r.2.mem ((c.tc : Thread Cert.HyInIdeal.nD Cert.HyInIdeal.τ).loc Cert.HyInIdeal.main_v5_2) = v2 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v32) = v0 c
          ∧ r.2.mem ((c.tc : Thread Cert.HyInRefIdeal.nD Cert.HyInRefIdeal.τ).loc Cert.HyInRefIdeal.main_v33) = v1 c
          ∧ r.2.mem ((c.tc : Thread Cert.HyInRefIdeal.nD Cert.HyInRefIdeal.τ).loc Cert.HyInRefIdeal.main_v34) = v2 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v11) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v3_0)) (v1 : (c : Dev Cert.PrepIdeal.nD) → Buf (Elt Ideal) ((c.tc : Thread Cert.PrepIdeal.nD Cert.PrepIdeal.τ).loc Cert.PrepIdeal.main_v3_1)) (v2 : (c : Dev Cert.PrepIdeal.nD) → Buf (Elt Ideal) ((c.tc : Thread Cert.PrepIdeal.nD Cert.PrepIdeal.τ).loc Cert.PrepIdeal.main_v3_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v3_0) = v0 c
          ∧ r.2.mem ((c.tc : Thread Cert.PrepIdeal.nD Cert.PrepIdeal.τ).loc Cert.PrepIdeal.main_v3_1) = v1 c
          ∧ r.2.mem ((c.tc : Thread Cert.PrepIdeal.nD Cert.PrepIdeal.τ).loc Cert.PrepIdeal.main_v3_3) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v37) = v0 c
          ∧ r.2.mem ((c.tc : Thread Cert.PrepRefIdeal.nD Cert.PrepRefIdeal.τ).loc Cert.PrepRefIdeal.main_v38) = v1 c
          ∧ r.2.mem ((c.tc : Thread Cert.PrepRefIdeal.nD Cert.PrepRefIdeal.τ).loc Cert.PrepRefIdeal.main_v39) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def Claim : Prop :=
  ∃ (hKernel : Cert.Kernel.Facts) (hKernelIdeal : Cert.KernelIdeal.Facts) (hFinal : Cert.Final.Facts) (hFinalIdeal : Cert.FinalIdeal.Facts) (hFinalRefIdeal : Cert.FinalRefIdeal.Facts) (hFirst : Cert.First.Facts) (hFirstIdeal : Cert.FirstIdeal.Facts) (hFirstRefIdeal : Cert.FirstRefIdeal.Facts) (hMiddle : Cert.Middle.Facts) (hMiddleIdeal : Cert.MiddleIdeal.Facts) (hMiddleRefIdeal : Cert.MiddleRefIdeal.Facts) (hHyIn : Cert.HyIn.Facts) (hHyInIdeal : Cert.HyInIdeal.Facts) (hHyInRefIdeal : Cert.HyInRefIdeal.Facts) (hMod : Cert.Mod.Facts) (hModIdeal : Cert.ModIdeal.Facts) (hModRefIdeal : Cert.ModRefIdeal.Facts) (hPrep : Cert.Prep.Facts) (hPrepIdeal : Cert.PrepIdeal.Facts) (hPrepRefIdeal : Cert.PrepRefIdeal.Facts) (hPre_finite : Cert.Pre_finite.Facts),
    quiescent_Kernel (hKernel := hKernel)
    ∧ quiescent_KernelIdeal (hKernelIdeal := hKernelIdeal)
    ∧ quiescent_Final (hFinal := hFinal)
    ∧ quiescent_FinalIdeal (hFinalIdeal := hFinalIdeal)
    ∧ quiescent_FinalRefIdeal (hFinalRefIdeal := hFinalRefIdeal)
    ∧ quiescent_First (hFirst := hFirst)
    ∧ quiescent_FirstIdeal (hFirstIdeal := hFirstIdeal)
    ∧ quiescent_FirstRefIdeal (hFirstRefIdeal := hFirstRefIdeal)
    ∧ quiescent_Middle (hMiddle := hMiddle)
    ∧ quiescent_MiddleIdeal (hMiddleIdeal := hMiddleIdeal)
    ∧ quiescent_MiddleIdeal_pre_finite (hMiddleIdeal := hMiddleIdeal) (hPre_finite := hPre_finite)
    ∧ quiescent_MiddleRefIdeal (hMiddleRefIdeal := hMiddleRefIdeal)
    ∧ quiescent_MiddleRefIdeal_pre_finite (hMiddleRefIdeal := hMiddleRefIdeal) (hPre_finite := hPre_finite)
    ∧ quiescent_HyIn (hHyIn := hHyIn)
    ∧ quiescent_HyInIdeal (hHyInIdeal := hHyInIdeal)
    ∧ quiescent_HyInRefIdeal (hHyInRefIdeal := hHyInRefIdeal)
    ∧ quiescent_Mod (hMod := hMod)
    ∧ quiescent_ModIdeal (hModIdeal := hModIdeal)
    ∧ quiescent_ModRefIdeal (hModRefIdeal := hModRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ preserves_Final_FinalIdeal
    ∧ algebraic_FinalIdeal_FinalRefIdeal (hFinalIdeal := hFinalIdeal) (hFinalRefIdeal := hFinalRefIdeal)
    ∧ preserves_First_FirstIdeal
    ∧ algebraic_FirstIdeal_FirstRefIdeal (hFirstIdeal := hFirstIdeal) (hFirstRefIdeal := hFirstRefIdeal)
    ∧ preserves_Middle_MiddleIdeal
    ∧ algebraic_MiddleIdeal_MiddleRefIdeal_pre_finite (hMiddleIdeal := hMiddleIdeal) (hMiddleRefIdeal := hMiddleRefIdeal) (hPre_finite := hPre_finite)
    ∧ preserves_HyIn_HyInIdeal
    ∧ algebraic_HyInIdeal_HyInRefIdeal (hHyInIdeal := hHyInIdeal) (hHyInRefIdeal := hHyInRefIdeal)
    ∧ preserves_Mod_ModIdeal
    ∧ algebraic_ModIdeal_ModRefIdeal (hModIdeal := hModIdeal) (hModRefIdeal := hModRefIdeal)
    ∧ preserves_Prep_PrepIdeal
    ∧ algebraic_PrepIdeal_PrepRefIdeal (hPrepIdeal := hPrepIdeal) (hPrepRefIdeal := hPrepRefIdeal)
-- ==== Pre_finite.lean ====
abbrev S32768x1024 : Shape := ⟨2, ![32768, 1024]⟩
abbrev S8x9x1024 : Shape := ⟨3, ![8, 9, 1024]⟩
abbrev S2x3x1024 : Shape := ⟨3, ![2, 3, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S32768x1024 : S_.BroadcastsInDim S32768x1024 (![] : Fin 0 → Fin S32768x1024.rank)

variable [Facts]

def fn {F : FTy → Type} [FloatOps F] (main_arg0 : FVec F S32768x1024 .f32) (main_arg1 : FVec F S32768x1024 .f32) (main_arg2 : FVec F S32768x1024 .f32) (main_arg3 : FVec F S32768x1024 .f32) (main_arg4 : FVec F S32768x1024 .bf16) (main_arg5 : FVec F S8x9x1024 .f32) (main_arg6 : FVec F S2x3x1024 .f32) (main_arg7 : FVec F S1024 .f32) (main_arg8 : FVec F S2x2x1024x5632 .f32) (main_arg9 : FVec F S2x2x2816x1024 .f32) (main_arg10 : FVec F S1x1024 .f32) (main_arg11 : FVec F S1x1024 .f32) (main_arg12 : FVec F S1x1024x1024 .f32) : IVec S32768x1024 1 :=
  let main_v0 : FVec F S32768x1024 .f32 := Host.absf main_arg1
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S32768x1024 .f32 := Host.absf main_arg2
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v3 main_v4
  let main_v6 : IVec S32768x1024 1 := andi main_v2 main_v5
  main_v6
-- ==== Kernel.lean ====
abbrev S4x8192x1024 : Shape := ⟨3, ![4, 8192, 1024]⟩
abbrev S1x1024 : Shape := ⟨2, ![1, 1024]⟩
abbrev S4x8x128x128 : Shape := ⟨4, ![4, 8, 128, 128]⟩
abbrev S1x512x1024 : Shape := ⟨3, ![1, 512, 1024]⟩
abbrev S1x8x128x128 : Shape := ⟨4, ![1, 8, 128, 128]⟩
abbrev S8x128x128 : Shape := ⟨3, ![8, 128, 128]⟩
abbrev S1x64x128 : Shape := ⟨3, ![1, 64, 128]⟩
abbrev S64x128 : Shape := ⟨2, ![64, 128]⟩
abbrev S1x128 : Shape := ⟨2, ![1, 128]⟩
abbrev S128x128 : Shape := ⟨2, ![128, 128]⟩
abbrev S256x128 : Shape := ⟨2, ![256, 128]⟩
abbrev S256x256 : Shape := ⟨2, ![256, 256]⟩
abbrev S16x128 : Shape := ⟨2, ![16, 128]⟩
abbrev S32x128 : Shape := ⟨2, ![32, 128]⟩
abbrev S128x256 : Shape := ⟨2, ![128, 256]⟩
abbrev S1x128x128 : Shape := ⟨3, ![1, 128, 128]⟩

abbrev nBuf : Space → Nat
  | .hbm => 10
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S1x1024, .f32⟩
  | .hbm, ⟨7, _⟩ => ⟨S4x8x128x128, .f32⟩
  | .hbm, ⟨8, _⟩ => ⟨S4x8192x1024, .f32⟩
  | .hbm, ⟨9, _⟩ => ⟨S4x8x128x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1024, .f32⟩
  | .local _ .vmem, ⟨13, _⟩ => ⟨S1x8x128x128, .f32⟩
  | .local _ .vmem, ⟨14, _⟩ => ⟨S1x8x128x128, .f32⟩
  | .local _ .vmem, ⟨15, _⟩ => ⟨S1x512x1024, .f32⟩
  | .local _ .vmem, ⟨16, _⟩ => ⟨S1x512x1024, .f32⟩
  | .local _ .vmem, ⟨17, _⟩ => ⟨S1x8x128x128, .f32⟩
  | .local _ .vmem, ⟨18, _⟩ => ⟨S1x8x128x128, .f32⟩
  | .local _ .vmem, ⟨19, _⟩ => ⟨S8x128x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 16], ![false, false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let c0_i32_4 : BitVec 32 := 0#32
  let v8 : BitVec 32 := Scalar.addi v7 c0_i32_4
  let c64_i32 : BitVec 32 := 64#32
  let v15 : BitVec 32 := Scalar.muli v8 c64_i32
  v15
def k0_mult2 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c4_i32_5 : BitVec 32 := 4#32
  let v9 : BitVec 32 := Scalar.muli arg14 c4_i32_5
  let c1_i32_6 : BitVec 32 := 1#32
  let v10 : BitVec 32 := Scalar.addi v9 c1_i32_6
  let c64_i32_10 : BitVec 32 := 64#32
  let v17 : BitVec 32 := Scalar.muli v10 c64_i32_10
  v17
def k0_mult3 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c4_i32_7 : BitVec 32 := 4#32
  let v11 : BitVec 32 := Scalar.muli arg14 c4_i32_7
  let c2_i32_8 : BitVec 32 := 2#32
  let v12 : BitVec 32 := Scalar.addi v11 c2_i32_8
  let c64_i32_11 : BitVec 32 := 64#32
  let v19 : BitVec 32 := Scalar.muli v12 c64_i32_11
  v19
def k0_mult4 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c4_i32_9 : BitVec 32 := 4#32
  let v13 : BitVec 32 := Scalar.muli arg14 c4_i32_9
  let c3_i32 : BitVec 32 := 3#32
  let v14 : BitVec 32 := Scalar.addi v13 c3_i32
  let c64_i32_12 : BitVec 32 := 64#32
  let v21 : BitVec 32 := Scalar.muli v14 c64_i32_12
  v21
def k0_off1 (k0_t1 : Fin k0_t1_loop.trips) (c0_i32_4 : BitVec 32) : Fin 3 → Nat :=
  let c0 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v23 : Index := Scalar.indexCast v16
  let c0_13 : Index := 0#32
  ![0, v23.toNat, 0]
def k0_off2 (k0_t1 : Fin k0_t1_loop.trips) (c0_i32_4 : BitVec 32) : Fin 3 → Nat :=
  let c0_14 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v26 : Index := Scalar.indexCast v16
  let c128 : Index := 128#32
  ![0, v26.toNat, 128]
def k0_off3 (k0_t1 : Fin k0_t1_loop.trips) (c0_i32_4 : BitVec 32) : Fin 3 → Nat :=
  let c0_15 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v29 : Index := Scalar.indexCast v16
  let c256 : Index := 256#32
  ![0, v29.toNat, 256]
def k0_off4 (k0_t1 : Fin k0_t1_loop.trips) (c0_i32_4 : BitVec 32) : Fin 3 → Nat :=
  let c0_16 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v32 : Index := Scalar.indexCast v16
  let c384 : Index := 384#32
  ![0, v32.toNat, 384]
def k0_off5 (k0_t1 : Fin k0_t1_loop.trips) (c0_i32_4 : BitVec 32) : Fin 3 → Nat :=
  let c0_17 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v35 : Index := Scalar.indexCast v16
  let c512 : Index := 512#32
  ![0, v35.toNat, 512]
def k0_off6 (k0_t1 : Fin k0_t1_loop.trips) (c0_i32_4 : BitVec 32) : Fin 3 → Nat :=
  let c0_18 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v38 : Index := Scalar.indexCast v16
  let c640 : Index := 640#32
  ![0, v38.toNat, 640]
def k0_off7 (k0_t1 : Fin k0_t1_loop.trips) (c0_i32_4 : BitVec 32) : Fin 3 → Nat :=
  let c0_19 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v41 : Index := Scalar.indexCast v16
  let c768 : Index := 768#32
  ![0, v41.toNat, 768]
def k0_off8 (k0_t1 : Fin k0_t1_loop.trips) (c0_i32_4 : BitVec 32) : Fin 3 → Nat :=
  let c0_20 : Index := 0#32
  let c0_i32_1 : BitVec 32 := 0#32
  let c1_i32 : BitVec 32 := 1#32
  let arg14 : BitVec 32 := Scf.iv c0_i32_1 c1_i32 k0_t1
  let c4_i32 : BitVec 32 := 4#32
  let v7 : BitVec 32 := Scalar.muli arg14 c4_i32
  let v8 : BitVec 32 := Scalar.addi v7 c0_i32_4
  let c64_i32 : BitVec 32 := 64#32
  let v15 : BitVec 32 := Scalar.muli v8 c64_i32
  let v16 : BitVec 32 := v15
  let v44 : Index := Scalar.indexCast v16
  let c896 : Index := 896#32
  ![0, v44.toNat, 896]
def k0_cond2 (i : grid0.Coords) : BitVec 1 :=
  let arg2 : BitVec 32 := BitVec.ofNat 32 (i 2).val
  let c15_i32 : BitVec 32 := 15#32
  let v4 : BitVec 1 := Scalar.cmpi .eq arg2 c15_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Final.lean ====
abbrev S32768x1024 : Shape := ⟨2, ![32768, 1024]⟩
abbrev S8x9x1024 : Shape := ⟨3, ![8, 9, 1024]⟩
abbrev S2x3x1024 : Shape := ⟨3, ![2, 3, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S2x1024 : Shape := ⟨2, ![2, 1024]⟩
abbrev S1024x1024 : Shape := ⟨2, ![1024, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S256x1024 : Shape := ⟨2, ![256, 1024]⟩
abbrev S256 : Shape := ⟨1, ![256]⟩
abbrev S256x1 : Shape := ⟨2, ![256, 1]⟩
abbrev S1x1x1024x1408 : Shape := ⟨4, ![1, 1, 1024, 1408]⟩
abbrev S1024x1408 : Shape := ⟨2, ![1024, 1408]⟩
abbrev S256x1408 : Shape := ⟨2, ![256, 1408]⟩
abbrev S1x1x1408x1024 : Shape := ⟨4, ![1, 1, 1408, 1024]⟩
abbrev S1408x1024 : Shape := ⟨2, ![1408, 1024]⟩

abbrev nBuf : Space → Nat
  | .hbm => 18
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x9x1024, .f32⟩
  | .hbm, ⟨3, _⟩ => ⟨S2x3x1024, .f32⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024x1024, .f32⟩
  | .hbm, ⟨8, _⟩ => ⟨S2x2x1024x5632, .bf16⟩
  | .hbm, ⟨9, _⟩ => ⟨S2x2x2816x1024, .bf16⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S1024x1024, .f32⟩
  | .hbm, ⟨16, _⟩ => ⟨S1024x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x9x1024, .f32⟩
  | .local _ .vmem, ⟨6, _⟩ => ⟨S1x9x1024, .f32⟩
  | .local _ .vmem, ⟨7, _⟩ => ⟨S2x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalRefIdeal.lean ====
abbrev S32768x1024 : Shape := ⟨2, ![32768, 1024]⟩
abbrev S8x9x1024 : Shape := ⟨3, ![8, 9, 1024]⟩
abbrev S2x3x1024 : Shape := ⟨3, ![2, 3, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024x1024 : Shape := ⟨3, ![1, 1024, 1024]⟩
abbrev S4x1x1024 : Shape := ⟨3, ![4, 1, 1024]⟩
abbrev S4x1024 : Shape := ⟨2, ![4, 1024]⟩
abbrev S4x8192x1024 : Shape := ⟨3, ![4, 8192, 1024]⟩
abbrev S1024x1024 : Shape := ⟨2, ![1024, 1024]⟩
abbrev S_ : Shape := ⟨0, ![]⟩
abbrev S1x1x1024 : Shape := ⟨3, ![1, 1, 1024]⟩
abbrev S4x8192 : Shape := ⟨2, ![4, 8192]⟩
abbrev S4x8192x1 : Shape := ⟨3, ![4, 8192, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 108
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x9x1024, .f32⟩
  | .hbm, ⟨3, _⟩ => ⟨S2x3x1024, .f32⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1024x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1x1024, .f32⟩
  | .hbm, ⟨18, _⟩ => ⟨S4x1024, .f32⟩
  | .hbm, ⟨19, _⟩ => ⟨S4x1x1024, .f32⟩
  | .hbm, ⟨20, _⟩ => ⟨S4x1x1024, .f32⟩
  | .hbm, ⟨21, _⟩ => ⟨S4x1024, .f32⟩
  | .hbm, ⟨22, _⟩ => ⟨S4x1x1024, .f32⟩
  | .hbm, ⟨23, _⟩ => ⟨S4x1x1024, .f32⟩
  | .hbm, ⟨24, _⟩ => ⟨S4x1024, .f32⟩
  | .hbm, ⟨25, _⟩ => ⟨S4x1x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x1x1024, .f32⟩
  | .hbm, ⟨33, _⟩ => ⟨S4x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S1024x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S1x1x1024, .f32⟩
  | .hbm, ⟨46, _⟩ => ⟨S1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S_, .f32⟩
  | .hbm, ⟨64, _⟩ => ⟨S4x1x1024, .f32⟩
  | .hbm, ⟨65, _⟩ => ⟨S4x1x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S1x1x1024x5632, .f32⟩
  | .hbm, ⟨71, _⟩ => ⟨S1024x5632, .f32⟩
  | .hbm, ⟨72, _⟩ => ⟨S1x1x2816x1024, .f32⟩
  | .hbm, ⟨73, _⟩ => ⟨S2816x1024, .f32⟩
  | .hbm, ⟨74, _⟩ => ⟨S4x8192x5632, .f32⟩
  | .hbm, ⟨75, _⟩ => ⟨S4x8192x2816, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S_, .f32⟩
  | .hbm, ⟨80, _⟩ => ⟨S4x8192x2816, .f32⟩
  | .hbm, ⟨81, _⟩ => ⟨S4x8192x2816, .f32⟩
  | .hbm, ⟨82, _⟩ => ⟨S_, .f32⟩
  | .hbm, ⟨83, _⟩ => ⟨S4x8192x2816, .f32⟩
  | .hbm, ⟨84, _⟩ => ⟨S4x8192x2816, .f32⟩
  | .hbm, ⟨85, _⟩ => ⟨S4x8192x2816, .f32⟩
  | .hbm, ⟨86, _⟩ => ⟨S4x8192x2816, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S_, .f32⟩
  | .hbm, ⟨93, _⟩ => ⟨S4x8192, .f32⟩
  | .hbm, ⟨94, _⟩ => ⟨S4x8192x1, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S_, .f32⟩
  | .hbm, ⟨99, _⟩ => ⟨S4x8192x1, .f32⟩
  | .hbm, ⟨100, _⟩ => ⟨S4x8192x1, .f32⟩
  | .hbm, ⟨101, _⟩ => ⟨S4x8192x1, .f32⟩
  | .hbm, ⟨102, _⟩ => ⟨S4x8192x1024, .f32⟩
  | .hbm, ⟨103, _⟩ => ⟨S4x8192x1024, .f32⟩
  | .hbm, ⟨104, _⟩ => ⟨S1x1x1024, .f32⟩
  | .hbm, ⟨105, _⟩ => ⟨S4x8192x1024, .f32⟩
  | .hbm, ⟨106, _⟩ => ⟨S4x8192x1024, .f32⟩
  | .hbm, ⟨107, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_cst_1 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_4 : Ref sig .tc := ⟨.hbm, 92, rfl⟩
abbrev main_v71 : Ref sig .tc := ⟨.hbm, 93, rfl⟩
abbrev main_v72 : Ref sig .tc := ⟨.hbm, 94, rfl⟩
abbrev main_cst_5 : Ref sig .tc := ⟨.hbm, 95, rfl⟩
abbrev main_v73 : Ref sig .tc := ⟨.hbm, 96, rfl⟩
abbrev main_v74 : Ref sig .tc := ⟨.hbm, 97, rfl⟩
abbrev main_cst_6 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== First.lean ====
abbrev S32768x1024 : Shape := ⟨2, ![32768, 1024]⟩
abbrev S8x9x1024 : Shape := ⟨3, ![8, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x2x1024 : Shape := ⟨3, ![1, 2, 1024]⟩
abbrev S2x1024 : Shape := ⟨2, ![2, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1024x1408 : Shape := ⟨4, ![1, 1, 1024, 1408]⟩
abbrev S1024x1408 : Shape := ⟨2, ![1024, 1408]⟩
abbrev S256x1408 : Shape := ⟨2, ![256, 1408]⟩
abbrev S1x1x1408x1024 : Shape := ⟨4, ![1, 1, 1408, 1024]⟩
abbrev S1408x1024 : Shape := ⟨2, ![1408, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S2x2x1024x5632, .bf16⟩
  | .hbm, ⟨6, _⟩ => ⟨S2x2x2816x1024, .bf16⟩
  | .hbm, ⟨7, _⟩ => ⟨S1x2x1024, .f32⟩
  | .hbm, ⟨8, _⟩ => ⟨S2x1024, .f32⟩
  | .hbm, ⟨9, _⟩ => ⟨S32768x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S2x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FirstRefIdeal.lean ====
abbrev S32768x1024 : Shape := ⟨2, ![32768, 1024]⟩
abbrev S8x9x1024 : Shape := ⟨3, ![8, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S4x1x1024 : Shape := ⟨3, ![4, 1, 1024]⟩
abbrev S4x1024 : Shape := ⟨2, ![4, 1024]⟩
abbrev S4x8192x1024 : Shape := ⟨3, ![4, 8192, 1024]⟩
abbrev S_ : Shape := ⟨0, ![]⟩
abbrev S1x1x1024 : Shape := ⟨3, ![1, 1, 1024]⟩
abbrev S1024 : Shape := ⟨1, ![1024]⟩
abbrev S4x8192 : Shape := ⟨2, ![4, 8192]⟩
abbrev S4x8192x1 : Shape := ⟨3, ![4, 8192, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 109
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1x1024, .f32⟩
  | .hbm, ⟨18, _⟩ => ⟨S4x1024, .f32⟩
  | .hbm, ⟨19, _⟩ => ⟨S4x1x1024, .f32⟩
  | .hbm, ⟨20, _⟩ => ⟨S4x1x1024, .f32⟩
  | .hbm, ⟨21, _⟩ => ⟨S4x1024, .f32⟩
  | .hbm, ⟨22, _⟩ => ⟨S4x1x1024, .f32⟩
  | .hbm, ⟨23, _⟩ => ⟨S4x1x1024, .f32⟩
  | .hbm, ⟨24, _⟩ => ⟨S4x1024, .f32⟩
  | .hbm, ⟨25, _⟩ => ⟨S4x1x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S1x1x1024, .f32⟩
  | .hbm, ⟨37, _⟩ => ⟨S1024, .f32⟩
  | .hbm, ⟨38, _⟩ => ⟨S4x8192x1024, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S4x8192x1024, .f32⟩
  | .hbm, ⟨50, _⟩ => ⟨S4x8192x1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x1x1024, .f32⟩
  | .hbm, ⟨56, _⟩ => ⟨S4x1x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S1x1x1024x5632, .f32⟩
  | .hbm, ⟨62, _⟩ => ⟨S1024x5632, .f32⟩
  | .hbm, ⟨63, _⟩ => ⟨S1x1x2816x1024, .f32⟩
  | .hbm, ⟨64, _⟩ => ⟨S2816x1024, .f32⟩
  | .hbm, ⟨65, _⟩ => ⟨S4x8192x5632, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S_, .f32⟩
  | .hbm, ⟨71, _⟩ => ⟨S4x8192x2816, .f32⟩
  | .hbm, ⟨72, _⟩ => ⟨S4x8192x2816, .f32⟩
  | .hbm, ⟨73, _⟩ => ⟨S_, .f32⟩
  | .hbm, ⟨74, _⟩ => ⟨S4x8192x2816, .f32⟩
  | .hbm, ⟨75, _⟩ => ⟨S4x8192x2816, .f32⟩
  | .hbm, ⟨76, _⟩ => ⟨S4x8192x2816, .f32⟩
  | .hbm, ⟨77, _⟩ => ⟨S4x8192x2816, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S1x1x1024, .f32⟩
  | .hbm, ⟨83, _⟩ => ⟨S1024, .f32⟩
  | .hbm, ⟨84, _⟩ => ⟨S4x8192x1024, .f32⟩
  | .hbm, ⟨85, _⟩ => ⟨S_, .f32⟩
  | .hbm, ⟨86, _⟩ => ⟨S4x8192, .f32⟩
  | .hbm, ⟨87, _⟩ => ⟨S4x8192x1, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S_, .f32⟩
  | .hbm, ⟨92, _⟩ => ⟨S4x8192x1, .f32⟩
  | .hbm, ⟨93, _⟩ => ⟨S4x8192x1, .f32⟩
  | .hbm, ⟨94, _⟩ => ⟨S4x8192x1, .f32⟩
  | .hbm, ⟨95, _⟩ => ⟨S4x8192x1024, .f32⟩
  | .hbm, ⟨96, _⟩ => ⟨S4x8192x1024, .f32⟩
  | .hbm, ⟨97, _⟩ => ⟨S1x1x1024, .f32⟩
  | .hbm, ⟨98, _⟩ => ⟨S4x8192x1024, .f32⟩
  | .hbm, ⟨99, _⟩ => ⟨S4x8192x1024, .f32⟩
  | .hbm, ⟨100, _⟩ => ⟨S_, .f32⟩
  | .hbm, ⟨101, _⟩ => ⟨S4x1x1024, .f32⟩
  | .hbm, ⟨102, _⟩ => ⟨S4x1x1024, .f32⟩
  | .hbm, ⟨103, _⟩ => ⟨S4x8192x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S32768x1024, .f32⟩
  | .hbm, ⟨108, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_cst_5 : Ref sig .tc := ⟨.hbm, 88, rfl⟩
abbrev main_v69 : Ref sig .tc := ⟨.hbm, 89, rfl⟩
abbrev main_v70 : Ref sig .tc := ⟨.hbm, 90, rfl⟩
abbrev main_cst_6 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_7 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]
-- ==== Middle.lean ====
abbrev S32768x1024 : Shape := ⟨2, ![32768, 1024]⟩
abbrev S8x9x1024 : Shape := ⟨3, ![8, 9, 1024]⟩
abbrev S2x3x1024 : Shape := ⟨3, ![2, 3, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1x1024 : Shape := ⟨3, ![1, 1, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S256x1024 : Shape := ⟨2, ![256, 1024]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S1x1x1024x1408 : Shape := ⟨4, ![1, 1, 1024, 1408]⟩
abbrev S1024x1408 : Shape := ⟨2, ![1024, 1408]⟩
abbrev S256x1408 : Shape := ⟨2, ![256, 1408]⟩
abbrev S1x1x1408x1024 : Shape := ⟨4, ![1, 1, 1408, 1024]⟩
abbrev S1408x1024 : Shape := ⟨2, ![1408, 1024]⟩

abbrev nBuf : Space → Nat
  | .hbm => 28
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x1024, .bf16⟩
  | .hbm, ⟨5, _⟩ => ⟨S8x9x1024, .f32⟩
  | .hbm, ⟨6, _⟩ => ⟨S2x3x1024, .f32⟩
  | .hbm, ⟨7, _⟩ => ⟨S1024, .f32⟩
  | .hbm, ⟨8, _⟩ => ⟨S2x2x1024x5632, .f32⟩
  | .hbm, ⟨9, _⟩ => ⟨S2x2x2816x1024, .f32⟩
  | .hbm, ⟨10, _⟩ => ⟨S1x1024, .f32⟩
  | .hbm, ⟨11, _⟩ => ⟨S1x1024, .f32⟩
  | .hbm, ⟨12, _⟩ => ⟨S1x1024x1024, .f32⟩
  | .hbm, ⟨13, _⟩ => ⟨S2x2x1024x5632, .bf16⟩
  | .hbm, ⟨14, _⟩ => ⟨S2x2x2816x1024, .bf16⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S2x1024, .f32⟩
  | .hbm, ⟨20, _⟩ => ⟨S1024x1024, .f32⟩
  | .hbm, ⟨21, _⟩ => ⟨S1024x1024, .bf16⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S2x1024, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S1024x1024, .bf16⟩
  | .local _ .vmem, ⟨12, _⟩ => ⟨S1x9x1024, .f32⟩
  | .local _ .vmem, ⟨13, _⟩ => ⟨S1x9x1024, .f32⟩
  | .local _ .vmem, ⟨14, _⟩ => ⟨S2x1024, .f32⟩
  | .local _ .vmem, ⟨15, _⟩ => ⟨S1x1x1024x5632, .bf16⟩
  | .local _ .vmem, ⟨16, _⟩ => ⟨S1x1x2816x1024, .bf16⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MiddleRefIdeal.lean ====
abbrev S32768x1024 : Shape := ⟨2, ![32768, 1024]⟩
abbrev S8x9x1024 : Shape := ⟨3, ![8, 9, 1024]⟩
abbrev S2x3x1024 : Shape := ⟨3, ![2, 3, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1x1024x1024 : Shape := ⟨3, ![1, 1024, 1024]⟩
abbrev S4x1x1024 : Shape := ⟨3, ![4, 1, 1024]⟩
abbrev S4x1024 : Shape := ⟨2, ![4, 1024]⟩
abbrev S4x8192x1024 : Shape := ⟨3, ![4, 8192, 1024]⟩
abbrev S4x8192x16x64 : Shape := ⟨4, ![4, 8192, 16, 64]⟩
abbrev S_ : Shape := ⟨0, ![]⟩
abbrev S4x8192x16 : Shape := ⟨3, ![4, 8192, 16]⟩
abbrev S4x8192x16x1 : Shape := ⟨4, ![4, 8192, 16, 1]⟩
abbrev S16x64 : Shape := ⟨2, ![16, 64]⟩
abbrev S1x1x16x64 : Shape := ⟨4, ![1, 1, 16, 64]⟩
abbrev S1024x1024 : Shape := ⟨2, ![1024, 1024]⟩
abbrev S1x1x1024 : Shape := ⟨3, ![1, 1, 1024]⟩
abbrev S4x8192 : Shape := ⟨2, ![4, 8192]⟩
abbrev S4x8192x1 : Shape := ⟨3, ![4, 8192, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 140
  | .vmem => 0
  | .smem => 0
  | _ => 0

abbrev hbmTy0_0 (i : Nat) : BufTy := match i % 128 with
  | 0 => ⟨S32768x1024, .f32⟩
  | 1 => ⟨S32768x1024, .f32⟩
  | 2 => ⟨S32768x1024, .f32⟩
  | 3 => ⟨S32768x1024, .f32⟩
  | 4 => ⟨S32768x1024, .bf16⟩
  | 5 => ⟨S8x9x1024, .f32⟩
  | 6 => ⟨S2x3x1024, .f32⟩
  | 7 => ⟨S1024, .f32⟩
  | 8 => ⟨S2x2x1024x5632, .f32⟩
  | 9 => ⟨S2x2x2816x1024, .f32⟩
  | 10 => ⟨S1x1024, .f32⟩
  | 11 => ⟨S1x1024, .f32⟩
  | 12 => ⟨S1x1024x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x1x1024, .f32⟩
  | 23 => ⟨S4x1024, .f32⟩
  | 24 => ⟨S4x1x1024, .f32⟩
  | 25 => ⟨S4x1x1024, .f32⟩
  | 26 => ⟨S4x1024, .f32⟩
  | 27 => ⟨S4x1x1024, .f32⟩
  | 28 => ⟨S4x1x1024, .f32⟩
  | 29 => ⟨S4x1024, .f32⟩
  | 30 => ⟨S4x1x1024, .f32⟩
  | 31 => ⟨S4x1x1024, .f32⟩
  | 32 => ⟨S4x1024, .f32⟩
  | 33 => ⟨S4x1x1024, .f32⟩
  | 34 => ⟨S4x1x1024, .f32⟩
  | 35 => ⟨S4x1024, .f32⟩
  | 36 => ⟨S4x1x1024, .f32⟩
  | 37 => ⟨S4x1x1024, .f32⟩
  | 38 => ⟨S4x1024, .f32⟩
  | 39 => ⟨S4x1x1024, .f32⟩
  | 40 => ⟨S4x8192x1024, .f32⟩
  | 41 => ⟨S4x8192x1024, .f32⟩
  | 42 => ⟨S4x8192x1024, .f32⟩
  | 43 => ⟨S4x8192x1024, .f32⟩
  | 44 => ⟨S4x8192x16x64, .f32⟩
  | 45 => ⟨S_, .f32⟩
  | 46 => ⟨S4x8192x16, .f32⟩
  | 47 => ⟨S4x8192x16x1, .f32⟩
  | 48 => ⟨S_, .f32⟩
  | 49 => ⟨S4x8192x16x1, .f32⟩
  | 50 => ⟨S4x8192x16x1, .f32⟩
  | 51 => ⟨S4x8192x16x64, .f32⟩
  | 52 => ⟨S4x8192x16x64, .f32⟩
  | 53 => ⟨S4x8192x16x64, .f32⟩
  | 54 => ⟨S_, .f32⟩
  | 55 => ⟨S4x8192x16, .f32⟩
  | 56 => ⟨S4x8192x16x1, .f32⟩
  | 57 => ⟨S_, .f32⟩
  | 58 => ⟨S4x8192x16x1, .f32⟩
  | 59 => ⟨S4x8192x16x1, .f32⟩
  | 60 => ⟨S4x8192x16x64, .f32⟩
  | 61 => ⟨S4x8192x16x64, .f32⟩
  | 62 => ⟨S_, .f32⟩
  | 63 => ⟨S4x8192x16x1, .f32⟩
  | 64 => ⟨S4x8192x16x1, .f32⟩
  | 65 => ⟨S4x8192x16x1, .f32⟩
  | 66 => ⟨S4x8192x16x64, .f32⟩
  | 67 => ⟨S4x8192x16x64, .f32⟩
  | 68 => ⟨S1024, .f32⟩
  | 69 => ⟨S16x64, .f32⟩
  | 70 => ⟨S1x1x16x64, .f32⟩
  | 71 => ⟨S4x8192x16x64, .f32⟩
  | 72 => ⟨S4x8192x16x64, .f32⟩
  | 73 => ⟨S1024, .f32⟩
  | 74 => ⟨S16x64, .f32⟩
  | 75 => ⟨S1x1x16x64, .f32⟩
  | 76 => ⟨S4x8192x16x64, .f32⟩
  | 77 => ⟨S4x8192x16x64, .f32⟩
  | 78 => ⟨S4x8192x1024, .f32⟩
  | 79 => ⟨S4x8192x16x64, .f32⟩
  | 80 => ⟨S4x8192x16x64, .f32⟩
  | 81 => ⟨S4x8192x1024, .f32⟩
  | 82 => ⟨S32768x1024, .f32⟩
  | 83 => ⟨S4x8192x1024, .f32⟩
  | 84 => ⟨S4x8192x1024, .f32⟩
  | 85 => ⟨S1024x1024, .f32⟩
  | 86 => ⟨S4x8192x1024, .f32⟩
  | 87 => ⟨S4x8192x1024, .f32⟩
  | 88 => ⟨S4x8192x1024, .f32⟩
  | 89 => ⟨S4x8192x1024, .f32⟩
  | 90 => ⟨S_, .f32⟩
  | 91 => ⟨S4x1x1024, .f32⟩
  | 92 => ⟨S4x1x1024, .f32⟩
  | 93 => ⟨S1x1x1024, .f32⟩
  | 94 => ⟨S1024, .f32⟩
  | 95 => ⟨S4x8192x1024, .f32⟩
  | 96 => ⟨S_, .f32⟩
  | 97 => ⟨S4x8192, .f32⟩
  | 98 => ⟨S4x8192x1, .f32⟩
  | 99 => ⟨S_, .f32⟩
  | 100 => ⟨S4x8192x1, .f32⟩
  | 101 => ⟨S4x8192x1, .f32⟩
  | 102 => ⟨S_, .f32⟩
  | 103 => ⟨S4x8192x1, .f32⟩
  | 104 => ⟨S4x8192x1, .f32⟩
  | 105 => ⟨S4x8192x1, .f32⟩
  | 106 => ⟨S4x8192x1024, .f32⟩
  | 107 => ⟨S4x8192x1024, .f32⟩
  | 108 => ⟨S1x1x1024, .f32⟩
  | 109 => ⟨S4x8192x1024, .f32⟩
  | 110 => ⟨S4x8192x1024, .f32⟩
  | 111 => ⟨S_, .f32⟩
  | 112 => ⟨S4x1x1024, .f32⟩
  | 113 => ⟨S4x1x1024, .f32⟩
  | 114 => ⟨S4x8192x1024, .f32⟩
  | 115 => ⟨S4x8192x1024, .f32⟩
  | 116 => ⟨S4x8192x1024, .f32⟩
  | 117 => ⟨S4x8192x1024, .f32⟩
  | 118 => ⟨S1x1x1024x5632, .f32⟩
  | 119 => ⟨S1024x5632, .f32⟩
  | 120 => ⟨S1x1x2816x1024, .f32⟩
  | 121 => ⟨S2816x1024, .f32⟩
  | 122 => ⟨S4x8192x5632, .f32⟩
  | 123 => ⟨S4x8192x2816, .f32⟩
  | 124 => ⟨S4x8192x2816, .f32⟩
  | 125 => ⟨S4x8192x2816, .f32⟩
  | 126 => ⟨S4x8192x2816, .f32⟩
  | 127 => ⟨S_, .f32⟩
  | _ => ⟨S32768x1024, .f32⟩

abbrev hbmTy0_1 (i : Nat) : BufTy := match i % 128 with
  | 0 => ⟨S4x8192x2816, .f32⟩
  | 1 => ⟨S4x8192x2816, .f32⟩
  | 2 => ⟨S_, .f32⟩
  | 3 => ⟨S4x8192x2816, .f32⟩
  | 4 => ⟨S4x8192x2816, .f32⟩
  | 5 => ⟨S4x8192x2816, .f32⟩
  | 6 => ⟨S4x8192x2816, .f32⟩
  | 7 => ⟨S4x8192x1024, .f32⟩
  | 8 => ⟨S4x8192x1024, .f32⟩
  | 9 => ⟨S4x8192x1024, .f32⟩
  | 10 => ⟨S4x8192x1024, .f32⟩
  | 11 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_4 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_5 : Ref sig .tc := ⟨.hbm, 96, rfl⟩
abbrev main_v77 : Ref sig .tc := ⟨.hbm, 97, rfl⟩
abbrev main_v78 : Ref sig .tc := ⟨.hbm, 98, rfl⟩
abbrev main_cst_6 : Ref sig .tc := ⟨.hbm, 99, rfl⟩
abbrev main_v79 : Ref sig .tc := ⟨.hbm, 100, rfl⟩
abbrev main_v80 : Ref sig .tc := ⟨.hbm, 101, rfl⟩
abbrev main_cst_7 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_8 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩

abbrev nD : Nat := 1
abbrev τ : Topo := Topo.v7x

variable {F : FTy → Type} [FloatOps F]
-- ==== HyIn.lean ====
abbrev S32768x1024 : Shape := ⟨2, ![32768, 1024]⟩
abbrev S1x1024x3072 : Shape := ⟨3, ![1, 1024, 3072]⟩
abbrev S1x3x3072 : Shape := ⟨3, ![1, 3, 3072]⟩
abbrev S1x3072 : Shape := ⟨2, ![1, 3072]⟩
abbrev S1024x3072 : Shape := ⟨2, ![1024, 3072]⟩
abbrev S3x3072 : Shape := ⟨2, ![3, 3072]⟩
abbrev S3072 : Shape := ⟨1, ![3072]⟩
abbrev S512x1024 : Shape := ⟨2, ![512, 1024]⟩
abbrev S8x1024 : Shape := ⟨2, ![8, 1024]⟩
abbrev S256x1024 : Shape := ⟨2, ![256, 1024]⟩
abbrev S272x1024 : Shape := ⟨2, ![272, 1024]⟩
abbrev S272x3072 : Shape := ⟨2, ![272, 3072]⟩
abbrev S256x1 : Shape := ⟨2, ![256, 1]⟩
abbrev S256x3072 : Shape := ⟨2, ![256, 3072]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1x1024x3072, .f32⟩
  | .hbm, ⟨2, _⟩ => ⟨S1x3x3072, .f32⟩
  | .hbm, ⟨3, _⟩ => ⟨S1x3072, .f32⟩
  | .hbm, ⟨4, _⟩ => ⟨S1024x3072, .f32⟩
  | .hbm, ⟨5, _⟩ => ⟨S1024x3072, .bf16⟩
  | .hbm, ⟨6, _⟩ => ⟨S3x3072, .f32⟩
  | .hbm, ⟨7, _⟩ => ⟨S3072, .f32⟩
  | .hbm, ⟨8, _⟩ => ⟨S1x3072, .f32⟩
  | .hbm, ⟨9, _⟩ => ⟨S32768x1024, .f32⟩
  | .hbm, ⟨10, _⟩ => ⟨S32768x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x3072, .bf16⟩
  | .local _ .vmem, ⟨7, _⟩ => ⟨S3x3072, .f32⟩
  | .local _ .vmem, ⟨8, _⟩ => ⟨S1x3072, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HyInRefIdeal.lean ====
abbrev S32768x1024 : Shape := ⟨2, ![32768, 1024]⟩
abbrev S1x1024x3072 : Shape := ⟨3, ![1, 1024, 3072]⟩
abbrev S1x3x3072 : Shape := ⟨3, ![1, 3, 3072]⟩
abbrev S1x3072 : Shape := ⟨2, ![1, 3072]⟩
abbrev S4x8192x1024 : Shape := ⟨3, ![4, 8192, 1024]⟩
abbrev S1024x3072 : Shape := ⟨2, ![1024, 3072]⟩
abbrev S4x8192x3072 : Shape := ⟨3, ![4, 8192, 3072]⟩
abbrev S3x3072 : Shape := ⟨2, ![3, 3072]⟩
abbrev S3072 : Shape := ⟨1, ![3072]⟩
abbrev S_ : Shape := ⟨0, ![]⟩
abbrev S4x8194x3072 : Shape := ⟨3, ![4, 8194, 3072]⟩
abbrev S1x1x3072 : Shape := ⟨3, ![1, 1, 3072]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x3072, .f32⟩
  | .hbm, ⟨2, _⟩ => ⟨S1x3x3072, .f32⟩
  | .hbm, ⟨3, _⟩ => ⟨S1x3072, .f32⟩
  | .hbm, ⟨4, _⟩ => ⟨S4x8192x1024, .f32⟩
  | .hbm, ⟨5, _⟩ => ⟨S1024x3072, .f32⟩
  | .hbm, ⟨6, _⟩ => ⟨S4x8192x3072, .f32⟩
  | .hbm, ⟨7, _⟩ => ⟨S3x3072, .f32⟩
  | .hbm, ⟨8, _⟩ => ⟨S3072, .f32⟩
  | .hbm, ⟨9, _⟩ => ⟨S_, .i32⟩
  | .hbm, ⟨10, _⟩ => ⟨S_, .f32⟩
  | .hbm, ⟨11, _⟩ => ⟨S4x8194x3072, .f32⟩
  | .hbm, ⟨12, _⟩ => ⟨S4x8192x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S4x8192x3072, .f32⟩
  | .hbm, ⟨17, _⟩ => ⟨S4x8192x3072, .f32⟩
  | .hbm, ⟨18, _⟩ => ⟨S4x8192x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S4x8192x3072, .f32⟩
  | .hbm, ⟨23, _⟩ => ⟨S4x8192x3072, .f32⟩
  | .hbm, ⟨24, _⟩ => ⟨S4x8192x3072, .f32⟩
  | .hbm, ⟨25, _⟩ => ⟨S4x8192x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S4x8192x3072, .f32⟩
  | .hbm, ⟨30, _⟩ => ⟨S4x8192x3072, .f32⟩
  | .hbm, ⟨31, _⟩ => ⟨S4x8192x3072, .f32⟩
  | .hbm, ⟨32, _⟩ => ⟨S1x1x3072, .f32⟩
  | .hbm, ⟨33, _⟩ => ⟨S4x8192x3072, .f32⟩
  | .hbm, ⟨34, _⟩ => ⟨S4x8192x3072, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S32768x1024, .f32⟩
  | .hbm, ⟨39, _⟩ => ⟨S32768x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Mod.lean ====
abbrev S4x1024 : Shape := ⟨2, ![4, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x9216 : Shape := ⟨3, ![2, 1, 9216]⟩
abbrev S8x9216 : Shape := ⟨2, ![8, 9216]⟩
abbrev S1x1024x1152 : Shape := ⟨3, ![1, 1024, 1152]⟩
abbrev S1x1x1152 : Shape := ⟨3, ![1, 1, 1152]⟩
abbrev S8x1152 : Shape := ⟨2, ![8, 1152]⟩
abbrev S1024x1152 : Shape := ⟨2, ![1024, 1152]⟩
abbrev S1x1152 : Shape := ⟨2, ![1, 1152]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x9216, .f32⟩
  | .hbm, ⟨9, _⟩ => ⟨S8x9216, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S8x1152, .f32⟩
  | .local _ .vmem, ⟨6, _⟩ => ⟨S8x1152, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S4x1024 : Shape := ⟨2, ![4, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x9216 : Shape := ⟨3, ![1, 1024, 9216]⟩
abbrev S1024x9216 : Shape := ⟨2, ![1024, 9216]⟩
abbrev S8x9216 : Shape := ⟨2, ![8, 9216]⟩
abbrev S1x9216 : Shape := ⟨2, ![1, 9216]⟩
abbrev S9216 : Shape := ⟨1, ![9216]⟩

abbrev nBuf : Space → Nat
  | .hbm => 25
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x9216, .f32⟩
  | .hbm, ⟨18, _⟩ => ⟨S1024x9216, .f32⟩
  | .hbm, ⟨19, _⟩ => ⟨S8x9216, .f32⟩
  | .hbm, ⟨20, _⟩ => ⟨S1x9216, .f32⟩
  | .hbm, ⟨21, _⟩ => ⟨S9216, .f32⟩
  | .hbm, ⟨22, _⟩ => ⟨S1x9216, .f32⟩
  | .hbm, ⟨23, _⟩ => ⟨S8x9216, .f32⟩
  | .hbm, ⟨24, _⟩ => ⟨S8x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Prep.lean ====
abbrev S32768x1024 : Shape := ⟨2, ![32768, 1024]⟩
abbrev S1x6x1024 : Shape := ⟨3, ![1, 6, 1024]⟩
abbrev S1x3x1024x1024 : Shape := ⟨4, ![1, 3, 1024, 1024]⟩
abbrev S1024x128 : Shape := ⟨2, ![1024, 128]⟩
abbrev S128x2048 : Shape := ⟨2, ![128, 2048]⟩
abbrev S1024x256 : Shape := ⟨2, ![1024, 256]⟩
abbrev S256x1024 : Shape := ⟨2, ![256, 1024]⟩
abbrev S8x2048 : Shape := ⟨2, ![8, 2048]⟩
abbrev S6x1024 : Shape := ⟨2, ![6, 1024]⟩
abbrev S3x1024x1024 : Shape := ⟨3, ![3, 1024, 1024]⟩
abbrev S64x1024 : Shape := ⟨2, ![64, 1024]⟩
abbrev S384x1024 : Shape := ⟨2, ![384, 1024]⟩
abbrev S1x2048 : Shape := ⟨2, ![1, 2048]⟩
abbrev S1x1024 : Shape := ⟨2, ![1, 1024]⟩
abbrev S128x1024 : Shape := ⟨2, ![128, 1024]⟩
abbrev S128x1 : Shape := ⟨2, ![128, 1]⟩
abbrev S128x256 : Shape := ⟨2, ![128, 256]⟩
abbrev S1x1024x1024 : Shape := ⟨3, ![1, 1024, 1024]⟩
abbrev S1024x1024 : Shape := ⟨2, ![1024, 1024]⟩
abbrev S128x128 : Shape := ⟨2, ![128, 128]⟩

abbrev nBuf : Space → Nat
  | .hbm => 23
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S1x6x1024, .f32⟩
  | .hbm, ⟨2, _⟩ => ⟨S1x3x1024x1024, .f32⟩
  | .hbm, ⟨3, _⟩ => ⟨S1024x128, .bf16⟩
  | .hbm, ⟨4, _⟩ => ⟨S128x2048, .bf16⟩
  | .hbm, ⟨5, _⟩ => ⟨S1024x128, .bf16⟩
  | .hbm, ⟨6, _⟩ => ⟨S128x2048, .bf16⟩
  | .hbm, ⟨7, _⟩ => ⟨S1024x256, .bf16⟩
  | .hbm, ⟨8, _⟩ => ⟨S256x1024, .bf16⟩
  | .hbm, ⟨9, _⟩ => ⟨S8x2048, .f32⟩
  | .hbm, ⟨10, _⟩ => ⟨S6x1024, .f32⟩
  | .hbm, ⟨11, _⟩ => ⟨S3x1024x1024, .f32⟩
  | .hbm, ⟨12, _⟩ => ⟨S3x1024x1024, .bf16⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S6x1024, .f32⟩
  | .local _ .vmem, ⟨7, _⟩ => ⟨S3x1024x1024, .bf16⟩
  | .local _ .vmem, ⟨8, _⟩ => ⟨S1024x128, .bf16⟩
  | .local _ .vmem, ⟨9, _⟩ => ⟨S128x2048, .bf16⟩
  | .local _ .vmem, ⟨10, _⟩ => ⟨S1024x128, .bf16⟩
  | .local _ .vmem, ⟨11, _⟩ => ⟨S128x2048, .bf16⟩
  | .local _ .vmem, ⟨12, _⟩ => ⟨S1024x256, .bf16⟩
  | .local _ .vmem, ⟨13, _⟩ => ⟨S256x1024, .bf16⟩
  | .local _ .vmem, ⟨14, _⟩ => ⟨S8x2048, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v3_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== PrepRefIdeal.lean ====
abbrev S32768x1024 : Shape := ⟨2, ![32768, 1024]⟩
abbrev S1x6x1024 : Shape := ⟨3, ![1, 6, 1024]⟩
abbrev S1x3x1024x1024 : Shape := ⟨4, ![1, 3, 1024, 1024]⟩
abbrev S1024x128 : Shape := ⟨2, ![1024, 128]⟩
abbrev S128x2048 : Shape := ⟨2, ![128, 2048]⟩
abbrev S1024x256 : Shape := ⟨2, ![1024, 256]⟩
abbrev S256x1024 : Shape := ⟨2, ![256, 1024]⟩
abbrev S8x2048 : Shape := ⟨2, ![8, 2048]⟩
abbrev S4x8192x1024 : Shape := ⟨3, ![4, 8192, 1024]⟩
abbrev S4x128x64x1024 : Shape := ⟨4, ![4, 128, 64, 1024]⟩
abbrev S_ : Shape := ⟨0, ![]⟩
abbrev S4x130x66x1024 : Shape := ⟨4, ![4, 130, 66, 1024]⟩
abbrev S4x128x64x256 : Shape := ⟨4, ![4, 128, 64, 256]⟩
abbrev S1x1x1024 : Shape := ⟨3, ![1, 1, 1024]⟩
abbrev S1024 : Shape := ⟨1, ![1024]⟩
abbrev S1x1x1024x1024 : Shape := ⟨4, ![1, 1, 1024, 1024]⟩
abbrev S1024x1024 : Shape := ⟨2, ![1024, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x6x1024, .f32⟩
  | .hbm, ⟨2, _⟩ => ⟨S1x3x1024x1024, .f32⟩
  | .hbm, ⟨3, _⟩ => ⟨S1024x128, .bf16⟩
  | .hbm, ⟨4, _⟩ => ⟨S128x2048, .bf16⟩
  | .hbm, ⟨5, _⟩ => ⟨S1024x128, .bf16⟩
  | .hbm, ⟨6, _⟩ => ⟨S128x2048, .bf16⟩
  | .hbm, ⟨7, _⟩ => ⟨S1024x256, .bf16⟩
  | .hbm, ⟨8, _⟩ => ⟨S256x1024, .bf16⟩
  | .hbm, ⟨9, _⟩ => ⟨S8x2048, .f32⟩
  | .hbm, ⟨10, _⟩ => ⟨S4x8192x1024, .f32⟩
  | .hbm, ⟨11, _⟩ => ⟨S4x128x64x1024, .f32⟩
  | .hbm, ⟨12, _⟩ => ⟨S_, .i32⟩
  | .hbm, ⟨13, _⟩ => ⟨S_, .f32⟩
  | .hbm, ⟨14, _⟩ => ⟨S4x130x66x1024, .f32⟩
  | .hbm, ⟨15, _⟩ => ⟨S4x128x64x256, .f32⟩
  | .hbm, ⟨16, _⟩ => ⟨S4x128x64x256, .f32⟩
  | .hbm, ⟨17, _⟩ => ⟨S4x128x64x256, .f32⟩
  | .hbm, ⟨18, _⟩ => ⟨S4x128x64x256, .f32⟩
  | .hbm, ⟨19, _⟩ => ⟨S4x128x64x1024, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S1x1x1024x1024, .f32⟩
  | .hbm, ⟨41, _⟩ => ⟨S1024x1024, .f32⟩
  | .hbm, ⟨42, _⟩ => ⟨S4x8192x1024, .f32⟩
  | .hbm, ⟨43, _⟩ => ⟨S1x1x1024x1024, .f32⟩
  | .hbm, ⟨44, _⟩ => ⟨S1024x1024, .f32⟩
  | .hbm, ⟨45, _⟩ => ⟨S4x8192x1024, .f32⟩
  | .hbm, ⟨46, _⟩ => ⟨S1x1x1024x1024, .f32⟩
  | .hbm, ⟨47, _⟩ => ⟨S1024x1024, .f32⟩
  | .hbm, ⟨48, _⟩ => ⟨S4x8192x1024, .f32⟩
  | .hbm, ⟨49, _⟩ => ⟨S32768x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.Scan.Free.lean ====
/- The pieces that the scan's loop writes do not depend on what the result's buffer held before: its loads from there are
   not used. -/
module

public import proofs.«01_k».proof.Proof.Gen.KernelIdeal.Loops

@[expose] public section

set_option maxRecDepth 16384
set_option maxHeartbeats 4000000

noncomputable section

namespace Cert.Own.Scan

open Cert.KernelIdeal Cert.KernelIdeal.Gen
open Idealize.ShloMosaic Idealize.ShloMosaic.TcCoe Idealize.SL.Sem

variable {F : FTy → Type} [FloatOps F]

/-- One trip's pieces, whatever the result's buffer held. -/
theorem trip_free (𝒱 : Variants) (c : Dev nD) (bd : Option 𝒱.V) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)
    (k : Fin k0_t1_loop.trips) (f f' : BufTy.Contents (Elt F) arg11.view.ty) (s : BufTy.Contents (Elt F) arg13.view.ty) :
    tripL_k0_t1 (F := F) 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 k f s = tripL_k0_t1 (F := F) 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 k f' s := by
  unfold tripL_k0_t1 trip_k0_t1
  rfl

/-- The pieces of the trips before `k`, whatever the result's buffer held. -/
theorem pb_free (𝒱 : Variants) (c : Dev nD) (bd : Option 𝒱.V) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)
    (f f' : BufTy.Contents (Elt F) arg11.view.ty) (s : BufTy.Contents (Elt F) arg13.view.ty) (k : ℕ) :
    pb_k0_t1 (F := F) 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 f s k = pb_k0_t1 (F := F) 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 f' s k := by
  induction k with
  | zero => rfl
  | succ k ih =>
    rw [pb_k0_t1.eq_2, pb_k0_t1.eq_2, ih]
    unfold pb_k0_t1Step
    split
    · rw [trip_free 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 ⟨k, ‹_›⟩ (arg11.view.writes (Elt F) f (pb_k0_t1 (F := F) 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 f' s k).1)
        (arg11.view.writes (Elt F) f' (pb_k0_t1 (F := F) 𝒱 c bd i arg3 harg3 arg4 harg4 arg5 harg5 arg6 harg6 arg7 harg7 arg8 harg8 arg9 harg9 arg10 harg10 arg11 harg11 arg12 harg12 arg13 harg13 X_arg3 X_arg4 X_arg5 X_arg6 X_arg7 X_arg8 X_arg9 f' s k).1)]
    · rfl

end Cert.Own.Scan

end
-- ==== Proof.Scan.RunA.lean ====
/- What the scan's kernel writes in the case of a chunk that begins a sequence: its run, with the loop's pieces stated from fixed contents of the
   result's buffer. -/
module

public import proofs.«01_k».proof.Proof.Gen.KernelIdeal.Frame.Runs
public import proofs.«01_k».proof.Proof.Scan.Free

@[expose] public section

set_option maxRecDepth 16384

noncomputable section

namespace Cert.Own.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces written to the result, the last state and the carried state, with the run that writes them. -/
noncomputable def kernelRun0_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) :
    Σ' (L8 : List (View.Piece (Elt F) S1x512x1024 .f32)), Σ' (L9 : List (View.Piece (Elt F) S1x8x128x128 .f32)), { LS0 : List (View.Piece (Elt F) S8x128x128 .f32) //
      ∀ (xi9 : Vec F S1x8x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xi9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xi9 ∗ (∃ f, arg13.view.loc (c : Thread nD τ) ↦[arg13.view.set]{fullShare} arg13.view.writes (Elt F) f LS0)) -∗ K ⟨⟩))
          ⊢ wp frame (wpE (defs₀ (F := F)) Variants.none c none) E (cc0_rwkv_scan_fwd i arg3 harg3 arg4 harg4 arg5 harg5 arg6 harg6 arg7 harg7 arg8 harg8 arg9 harg9 arg10 harg10 arg11 harg11 arg12 harg12 arg13 harg13) K } := by
  refine ⟨?_, [], ?_, fun xi9 E K => ?run⟩
  case run =>
    simp only [cc0_rwkv_scan_fwd_eq_skeleton]; unfold cc0_rwkv_scan_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · rw [pb_free (f := f8) (f' := harg11.unread x0)]
      iexists _; iexact H8
    isplitl [H9]
    · iexists _; isplitr; · ipureintro; exact harg12.read_unread _
      iexact H9
    rw [pb_free (f := f8) (f' := harg11.unread x0)]
    iexists _; iexact HS0

end Cert.Own.Scan

end
-- ==== Proof.Scan.RunB.lean ====
/- What the scan's kernel writes in the case of a chunk in the middle of a sequence: its run, with the loop's pieces stated from fixed contents of the
   result's buffer. -/
module

public import proofs.«01_k».proof.Proof.Scan.RunA

@[expose] public section

set_option maxRecDepth 16384

noncomputable section

namespace Cert.Own.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces written to the result, the last state and the carried state, with the run that writes them. -/
noncomputable def kernelRun0_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) :
    Σ' (L8 : List (View.Piece (Elt F) S1x512x1024 .f32)), Σ' (L9 : List (View.Piece (Elt F) S1x8x128x128 .f32)), { LS0 : List (View.Piece (Elt F) S8x128x128 .f32) //
      ∀ (xi9 : Vec F S1x8x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xi9 ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xi9 ∗ (∃ f, arg13.view.loc (c : Thread nD τ) ↦[arg13.view.set]{fullShare} arg13.view.writes (Elt F) f LS0)) -∗ K ⟨⟩))
          ⊢ wp frame (wpE (defs₀ (F := F)) Variants.none c none) E (cc0_rwkv_scan_fwd i arg3 harg3 arg4 harg4 arg5 harg5 arg6 harg6 arg7 harg7 arg8 harg8 arg9 harg9 arg10 harg10 arg11 harg11 arg12 harg12 arg13 harg13) K } := by
  refine ⟨?_, [], ?_, fun xi9 E K => ?run⟩
  case run =>
    simp only [cc0_rwkv_scan_fwd_eq_skeleton]; unfold cc0_rwkv_scan_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · rw [pb_free (f := f8) (f' := harg11.unread x0)]
      iexists _; iexact H8
    isplitl [H9]
    · iexists _; isplitr; · ipureintro; exact harg12.read_unread _
      iexact H9
    rw [pb_free (f := f8) (f' := harg11.unread x0)]
    iexists _; iexact HS0

end Cert.Own.Scan

end
-- ==== Proof.Scan.RunC.lean ====
/- What the scan's kernel writes in the case of a chunk that ends a sequence: its run, with the loop's pieces stated from fixed contents of the
   result's buffer. -/
module

public import proofs.«01_k».proof.Proof.Scan.RunB

@[expose] public section

set_option maxRecDepth 16384

noncomputable section

namespace Cert.Own.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces written to the result, the last state and the carried state, with the run that writes them. -/
noncomputable def kernelRun0_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) :
    Σ' (L8 : List (View.Piece (Elt F) S1x512x1024 .f32)), Σ' (L9 : List (View.Piece (Elt F) S1x8x128x128 .f32)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0)) -∗ K ⟨⟩))
          ⊢ wp frame (wpE (defs₀ (F := F)) Variants.none c none) E (cc0_rwkv_scan_fwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_rwkv_scan_fwd_eq_skeleton]; unfold cc0_rwkv_scan_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · rw [pb_free (f := f8) (f' := harg11.unread x0)]
      iexists _; iexact H8
    isplitl [H9]
    · unfold kernelRun0_C.sl.v7
      rw [pb_free (f := f8) (f' := harg11.unread x0)]
      iexists _; iexact H9
    rw [pb_free (f := f8) (f' := harg11.unread x0)]
    iexists _; iexact HS0

end Cert.Own.Scan

end
-- ==== Proof.Scan.Frame.lean ====
/- The scan's frame: the covers and contents of its outputs in each of the three cases, point by point, the body's
   obligation, the run and the frame claim. -/
module

public import proofs.«01_k».proof.Proof.Scan.RunC
public import Idealize.ShloMosaic.Lib.Claim

@[expose] public section

set_option maxRecDepth 16384

noncomputable section

namespace Cert.Own.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces cover the block. -/
theorem cover0_A_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (y : S1x512x1024.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).1 S1x64x128.size (by sl_kernel_rfl) y

/-- What the block of the output holds after the point. -/
def out0_A_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) : Vec F S1x512x1024 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).1)

/-- What the block of the output holds after the point. -/
def out0_A_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) : Vec F S1x8x128x128 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

/-- The pieces cover the carried state. -/
theorem scover0_A_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (y : S8x128x128.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 (by sl_whole_mem) y

/-- The carried state after the point. -/
def sout0_A_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) : Vec F S8x128x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1)

/-- The pieces cover the block. -/
theorem cover0_B_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) (y : S1x512x1024.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 S1x64x128.size (by sl_kernel_rfl) y

/-- What the block of the output holds after the point. -/
def out0_B_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) : Vec F S1x512x1024 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1)

/-- What the block of the output holds after the point. -/
def out0_B_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) : Vec F S1x8x128x128 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1)

/-- The pieces cover the carried state. -/
theorem scover0_B_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) (y : S8x128x128.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1 S1x128x128.size (by sl_kernel_rfl) y

/-- The carried state after the point. -/
def sout0_B_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : ¬cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) : Vec F S8x128x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1)

/-- The pieces cover the block. -/
theorem cover0_C_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) (y : S1x512x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 S1x64x128.size (by sl_kernel_rfl) y

/-- What the block of the output holds after the point. -/
def out0_C_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) : Vec F S1x512x1024 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1)

/-- The pieces cover the block. -/
theorem cover0_C_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) (y : S1x8x128x128.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1 S1x8x128x128.size (by sl_kernel_rfl) y

/-- What the block of the output holds after the point. -/
def out0_C_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) : Vec F S1x8x128x128 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1)

/-- The pieces cover the carried state. -/
theorem scover0_C_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) (y : S8x128x128.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1 S1x128x128.size (by sl_kernel_rfl) y

/-- The carried state after the point. -/
def sout0_C_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x8x128x128 .f32) (harg10 : arg10.IsWhole) (arg11 : Memref sig .tc .vmem S1x512x1024 .f32) (harg11 : arg11.IsWhole) (arg12 : Memref sig .tc .vmem S1x8x128x128 .f32) (harg12 : arg12.IsWhole) (arg13 : Memref sig .tc .vmem S8x128x128 .f32) (harg13 : arg13.IsWhole) (hc0 : ¬cond0_0 i) (hc1 : cond0_1 i)
    (x0 : Vec F S1x512x1024 .f32) (x1 : Vec F S1x512x1024 .f32) (x2 : Vec F S1x512x1024 .f32) (x3 : Vec F S1x512x1024 .f32) (x4 : Vec F S1x512x1024 .f32) (x5 : Vec F S1x512x1024 .f32) (x6 : Vec F S1x1024 .f32) (x7 : Vec F S1x8x128x128 .f32) (xs0 : Vec F S8x128x128 .f32) : Vec F S8x128x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1)

/-- The two outputs' blocks and the carried state after each point. -/
def outsAt0 (c : Dev nD) : (n : ℕ) → n < cfg0.N → Vec F S1x512x1024 .f32 × Vec F S1x8x128x128 .f32 × Vec F S8x128x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      if h1 : (n + 1) % 16 = 15 then
        False.elim (by have hN : n + 1 < 64 := lt_of_lt_of_eq hn (show cfg0.N = 64 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 16 = 15 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What is held between two points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The data of the pipeline's proof. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body ends with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 12000000 in
/-- The body at one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
      · rw [PhiS_castSucc m c t, PhiS_pos m c _ _ hz]
        rw [outsAt0_A m c t h0 h1]
        unfold out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexists _; iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_8 out0_C_9 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        iexists _; iexact H9

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The run, with the counters at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline ends at what the data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame claim, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Own.Scan

end
-- ==== Proof.Scan.Same.lean ====
/-
The frame of the recurrence's call at the kernel. The kernel and the ideal kernel have one text, so their bodies, their
definitions and their main functions are equal, and the run over any float values serves both.
-/
module

public import proofs.«01_k».proof.Proof.Gen.Kernel
public import proofs.«01_k».proof.Proof.Scan.Frame

@[expose] public section

set_option maxRecDepth 65536
set_option maxHeartbeats 0

noncomputable section

namespace Cert.Own.Scan

open Idealize.ShloMosaic Idealize.SL.Sem

/-- The two bodies are one. -/
theorem body_same {F : FTy → Type} [FloatOps F] :
    Cert.Kernel.cc0_rwkv_scan_fwd (F := F) = Cert.KernelIdeal.cc0_rwkv_scan_fwd (F := F) := rfl

/-- The two bodies at their labels are one: there is one label. -/
theorem defs0_same {F : FTy → Type} [FloatOps F] :
    Cert.Kernel.defs₀ (F := F) = Cert.KernelIdeal.defs₀ (F := F) := by
  unfold Cert.Kernel.defs₀ Cert.KernelIdeal.defs₀
  rw [body_same]
  refine congrArg Defs.onTc ?_
  funext l a
  match l, a with
  | 0, (t, s) => rfl
  | ⟨_ + 1, h⟩, _ => exact absurd h (by omega)

/-- The definitions of the two programs are one. -/
theorem defs_same {F : FTy → Type} [FloatOps F] :
    Cert.Kernel.defs (F := F) = Cert.KernelIdeal.defs (F := F) := by
  unfold Cert.Kernel.defs Cert.KernelIdeal.defs
  exact congrArg (Pipeline.defs (Cert.KernelIdeal.pcfgs (F := F))) defs0_same

/-- The main functions of the two programs are one. -/
theorem main_same {F : FTy → Type} [FloatOps F] :
    Cert.Kernel.main (F := F) = Cert.KernelIdeal.main (F := F) := rfl

/-- The kernel's call ends, leaves its arguments alone and every counter at zero. -/
theorem frame_kernel {F : FTy → Type} [FloatOps F]
    (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_same, main_same]
  exact frame (F := F) m ρ

end Cert.Own.Scan

end
-- ==== Proof.Ffn.Row.lean ====
/- One token's row through a SwiGLU half-step: the root-mean-square norm with its scale and shift, the two products with
   the gate and up weights, the gated activation, the product with the down weights, and the residual. Both the kernels
   and the references compute these functions of a row; the kernels add the down product in two halves of the hidden width. -/
module

public import Idealize.ShloMosaic.Lib.Pipeline.ValueKit
public import Idealize.ShloMosaic.Lib.Pointwise

@[expose] public section

set_option maxRecDepth 16384

noncomputable section

namespace Cert.Own.Row

open Idealize.ShloMosaic

/-- A token's channels. -/
abbrev Row := Fin 1024 → EReal

/-- The reciprocal root of a row's mean square: the sum divided by 1024, a small constant added. -/
def rinv (x : Row) : EReal :=
  Ideal.rsqrt (Ideal.div (∑ k, x k * x k) (Ideal.ofBits FTy.f32 1149239296#32) + Ideal.ofBits FTy.f32 897988541#32)

/-- The normed row times its weight. -/
def normed (x g : Row) : Row := fun c => x c * rinv x * g c

/-- The normed row, scaled by one plus `sc` and shifted by `sh`. -/
def modded (x g sh sc : Row) : Row := fun c => normed x g c * (1 + sc c) + sh c

/-- Column `j` of the row's product with the gate-and-up weights. -/
def proj (h : Row) (W : Fin 1024 → Fin 5632 → EReal) (j : Fin 5632) : EReal := ∑ k, h k * W k j

/-- The hidden unit `j`: the gate's silu times the up product. -/
def act (h : Row) (W : Fin 1024 → Fin 5632 → EReal) (j : Fin 2816) : EReal :=
  proj h W ⟨j.val, by omega⟩ * Ideal.logistic (proj h W ⟨j.val, by omega⟩) * proj h W ⟨2816 + j.val, by omega⟩

/-- The row after the down product. -/
def swiglu (h : Row) (W : Fin 1024 → Fin 5632 → EReal) (D : Fin 2816 → Fin 1024 → EReal) : Row :=
  fun c => ∑ j, act h W j * D j c

/-- The residual half-step: the row plus half the gate `ga` times the feed-forward of its modulated norm. -/
def half (x g sh sc ga : Row) (W : Fin 1024 → Fin 5632 → EReal) (D : Fin 2816 → Fin 1024 → EReal) : Row :=
  fun c => x c + Ideal.ofBits FTy.f32 1056964608#32 * ga c * swiglu (modded x g sh sc) W D c

/-- The row plus the gate `ga` times the product of the mixer's row `z` with its output weights. -/
def mixed (x z ga : Row) (W : Fin 1024 → Fin 1024 → EReal) : Row := fun c => x c + ga c * ∑ k, z k * W k c

/-- The last half-step's row: the mixer's residual, the half-step, the last norm. -/
def finalRow (x z : Row) (mo : Fin 9 → Row) (g fg : Row) (W : Fin 1024 → Fin 5632 → EReal) (D : Fin 2816 → Fin 1024 → EReal)
    (Wo : Fin 1024 → Fin 1024 → EReal) : Row :=
  normed (half (mixed x z (mo 5) Wo) g (mo 6) (mo 7) (mo 8) W D) fg

/-- A half-step's row and the next block's modulated norm of it. -/
def firstRow (x : Row) (mo : Fin 9 → Row) (g : Row) (W : Fin 1024 → Fin 5632 → EReal) (D : Fin 2816 → Fin 1024 → EReal) : Row :=
  half x g (mo 0) (mo 1) (mo 2) W D

def nextRow (x : Row) (mo : Fin 9 → Row) (g g' : Row) (W : Fin 1024 → Fin 5632 → EReal) (D : Fin 2816 → Fin 1024 → EReal) : Row :=
  modded (firstRow x mo g W D) g' (mo 3) (mo 4)

/-- The down product is the sum of its two halves over the hidden width. -/
theorem swiglu_halves (h : Row) (W : Fin 1024 → Fin 5632 → EReal) (D : Fin 2816 → Fin 1024 → EReal) (c : Fin 1024) :
    swiglu h W D c = (∑ j : Fin 1408, act h W ⟨j.val, by omega⟩ * D ⟨j.val, by omega⟩ c)
      + ∑ j : Fin 1408, act h W ⟨1408 + j.val, by omega⟩ * D ⟨1408 + j.val, by omega⟩ c :=
  Fin.sum_univ_two_halves 1408 1408 rfl fun j => act h W j * D j c

end Cert.Own.Row

end
-- ==== Proof.Ffn.FinalBlock.lean ====
/- What one grid point of the last half-step writes: row `r` of its block of 512 tokens, as a function of the input
   windows' blocks. The body works on two halves of 256 rows and on two halves of the hidden width. -/
module

public import proofs.«01_k».proof.Proof.Gen.FinalIdeal.Value
public import proofs.«01_k».proof.Proof.Ffn.Row

@[expose] public section

set_option maxRecDepth 16384

noncomputable section

namespace Cert.Own.Final

open Cert.FinalIdeal Cert.FinalIdeal.Gen Idealize.ShloMosaic Idealize.ShloMosaic.TcCoe Idealize.SL.Sem
open Cert.Own.Row

variable (x0 x1 : Vec Ideal S512x1024 .f32) (x2 : Vec Ideal S1024x1024 .bf16) (x3 : Vec Ideal S1x9x1024 .f32)
  (x4 : Vec Ideal S2x1024 .f32) (x5 : Vec Ideal S1x1x1024x5632 .bf16) (x6 : Vec Ideal S1x1x2816x1024 .bf16)

/-- Row `r` of the block after the mixer's residual. -/
def rowX (r : Fin 512) : Row :=
  mixed (fun k => x0 (ix2 r k)) (fun k => x1 (ix2 r k)) (fun k => x3 (ix3 0 5 k)) (fun k c => x2 (ix2 k c))

/-- Its modulated norm. -/
def rowH (r : Fin 512) : Row :=
  modded (rowX x0 x1 x2 x3 r) (fun k => x4 (ix2 0 k)) (fun k => x3 (ix3 0 6 k)) (fun k => x3 (ix3 0 7 k))

/-- The gate-and-up weights as a matrix. -/
def wgu (k : Fin 1024) (j : Fin 5632) : EReal := x5 (ix4 0 0 k j)
/-- The down weights as a matrix. -/
def wd (j : Fin 2816) (c : Fin 1024) : EReal := x6 (ix4 0 0 j c)

/-- The row after the half-step. -/
def rowY (r : Fin 512) : Row := fun c =>
  rowX x0 x1 x2 x3 r c + Ideal.ofBits FTy.f32 1056964608#32 * x3 (ix3 0 8 c)
    * swiglu (rowH x0 x1 x2 x3 x4 r) (wgu x5) (wd x6) c

/-- The row after the last norm. -/
def rowOut (r : Fin 512) : Row := normed (rowY x0 x1 x2 x3 x4 x5 x6 r) (fun k => x4 (ix2 1 k))

theorem pay4_apply (r : Fin 256) (c : Fin 1024) :
    k0_pay4 (View.ld x3 r0_0) (View.ld x0 r0_2) (View.ld x1 r0_2) (View.ld x2 r0_3) (ix2 r c)
      = rowX x0 x1 x2 x3 ⟨r.val, by omega⟩ c := by
  pointwise [k0_pay4, k0_pay2, r0_0, r0_2, r0_3, rowX, mixed]

theorem pay21_apply (n : Fin 9) (c : Fin 1024) : k0_pay21 x0 x1 x2 x3 x4 x5 x6 (ix2 n c) = x3 (ix3 0 n c) := by
  pointwise [k0_pay21, k0_pay2, r0_0]

theorem pay22_apply (n : Fin 2) (c : Fin 1024) : k0_pay22 x0 x1 x2 x3 x4 x5 x6 (ix2 n c) = x4 (ix2 n c) := by
  pointwise [k0_pay22, k0_pay3, r0_1]

theorem pay9_apply (r : Fin 256) (c : Fin 1024) :
    k0_pay9 (k0_pay21 x0 x1 x2 x3 x4 x5 x6) (View.ld x0 r0_6) (View.ld x1 r0_6) (View.ld x2 r0_3) (ix2 r c)
      = rowX x0 x1 x2 x3 ⟨256 + r.val, by omega⟩ c := by
  pointwise [k0_pay9, pay21_apply, r0_6, r0_3, rowX, mixed]

theorem pay23_apply (r : Fin 256) (c : Fin 1024) :
    k0_pay23 x0 x1 x2 x3 x4 x5 x6 (ix2 r c) = rowH x0 x1 x2 x3 x4 ⟨r.val, by omega⟩ c := by
  pointwise [k0_pay23, k0_pay5, k0_pay4, k0_pay3, k0_pay2, r0_0, r0_1, r0_2, r0_3, rowH, modded, normed, rinv, rowX, mixed]

theorem pay24_apply (r : Fin 256) (c : Fin 1024) :
    k0_pay24 x0 x1 x2 x3 x4 x5 x6 (ix2 r c) = rowH x0 x1 x2 x3 x4 ⟨256 + r.val, by omega⟩ c := by
  pointwise [k0_pay24, k0_pay10, k0_pay9, pay21_apply, pay22_apply, k0_pay3, k0_pay2, r0_0, r0_1, r0_6, r0_3, rowH, modded, normed, rinv, rowX, mixed]

theorem pay11_apply (r : Fin 256) (j : Fin 1408) :
    k0_pay11 (k0_pay21 x0 x1 x2 x3 x4 x5 x6) (k0_pay22 x0 x1 x2 x3 x4 x5 x6) (View.ld x0 r0_6) (View.ld x1 r0_6)
        (View.ld x2 r0_3) (View.ld x5 r0_4) (ix2 r j)
      = proj (rowH x0 x1 x2 x3 x4 ⟨256 + r.val, by omega⟩) (wgu x5) ⟨j.val, by omega⟩ := by
  pointwise [k0_pay11, k0_pay10, k0_pay9, pay21_apply, pay22_apply, r0_6, r0_3, r0_4, rowH, modded, normed, rinv, rowX, mixed, proj, wgu]

theorem low_apply (r : Fin 256) (c : Fin 1024) :
    k0_pay18 (k0_pay21 x0 x1 x2 x3 x4 x5 x6) (k0_pay22 x0 x1 x2 x3 x4 x5 x6)
      (k0_pay4 (View.ld x3 r0_0) (View.ld x0 r0_2) (View.ld x1 r0_2) (View.ld x2 r0_3))
      (k0_pay12 (k0_pay7 (k0_pay23 x0 x1 x2 x3 x4 x5 x6) (k0_pay6 (View.ld x5 r0_4)) (constant S256x1408 FTy.f32 0#32))
        (k0_pay8 (k0_pay23 x0 x1 x2 x3 x4 x5 x6) (View.ld x5 r0_5)) (View.ld x6 r0_7))
      (k0_pay14 (k0_pay23 x0 x1 x2 x3 x4 x5 x6) (View.ld x5 r0_8))
      (k0_pay15 (k0_pay23 x0 x1 x2 x3 x4 x5 x6) (View.ld x5 r0_9)) (View.ld x6 r0_10) (ix2 r c)
      = rowOut x0 x1 x2 x3 x4 x5 x6 ⟨r.val, by omega⟩ c := by
  simp only [rowOut, normed, rinv, rowY, swiglu_halves]
  pointwise [k0_pay18, pay21_apply, pay22_apply, pay4_apply, k0_pay12, k0_pay7, k0_pay6, k0_pay8, k0_pay14, k0_pay15,
    pay23_apply, r0_4, r0_5, r0_7, r0_8, r0_9, r0_10, act, proj, wgu, wd]
  simp only [← Nat.add_assoc, Nat.reduceAdd]

theorem high_apply (r : Fin 256) (c : Fin 1024) :
    k0_pay1 (k0_pay22 x0 x1 x2 x3 x4 x5 x6)
      (k0_pay9 (k0_pay21 x0 x1 x2 x3 x4 x5 x6) (View.ld x0 r0_6) (View.ld x1 r0_6) (View.ld x2 r0_3))
      (k0_pay17 (k0_pay24 x0 x1 x2 x3 x4 x5 x6)
        (k0_pay13 (k0_pay24 x0 x1 x2 x3 x4 x5 x6)
          (k0_pay11 (k0_pay21 x0 x1 x2 x3 x4 x5 x6) (k0_pay22 x0 x1 x2 x3 x4 x5 x6) (View.ld x0 r0_6) (View.ld x1 r0_6)
            (View.ld x2 r0_3) (View.ld x5 r0_4))
          (View.ld x5 r0_5) (View.ld x6 r0_7))
        (k0_pay16 (k0_pay24 x0 x1 x2 x3 x4 x5 x6) (View.ld x5 r0_8)) (View.ld x5 r0_9) (View.ld x6 r0_10))
      (k0_pay19 (k0_pay21 x0 x1 x2 x3 x4 x5 x6)) k0_pay20 (ix2 r c)
      = rowOut x0 x1 x2 x3 x4 x5 x6 ⟨256 + r.val, by omega⟩ c := by
  simp only [rowOut, normed, rinv, rowY, swiglu_halves]
  pointwise [k0_pay1, k0_pay17, k0_pay13, k0_pay16, k0_pay19, k0_pay20, pay9_apply, pay21_apply, pay22_apply, pay11_apply,
    pay24_apply, r0_5, r0_7, r0_8, r0_9, r0_10, act, proj, wgu, wd]
  simp only [← Nat.add_assoc, Nat.reduceAdd]

/-- What a grid point leaves in its block of the result. -/
theorem out_apply (R : Fin 512) (c : Fin 1024) :
    out0_7 x0 x1 x2 x3 x4 x5 x6 (ix2 R c) = rowOut x0 x1 x2 x3 x4 x5 x6 R c := by
  unfold out0_7
  canon_tiles x h
  · idx_vars x
    refine (high_apply _ _ _ _ _ _ _ _ _).trans ?_
    exact congrArg₂ _ (Fin.ext h0.symm) (Fin.ext h1.symm)
  · idx_vars x
    refine (low_apply _ _ _ _ _ _ _ _ _).trans ?_
    exact congrArg₂ _ (Fin.ext h0.symm) (Fin.ext h1.symm)

end Cert.Own.Final

end
-- ==== Proof.Ffn.FinalArray.lean ====
/- What the last half-step's kernel leaves in its result array: at token `R` and channel `c` the row function of the
   argument arrays, the modulations those of the token's batch element. -/
module

public import proofs.«01_k».proof.Proof.Ffn.FinalBlock

@[expose] public section

set_option maxRecDepth 16384

noncomputable section

namespace Cert.Own.Final

open Cert.FinalIdeal Cert.FinalIdeal.Gen Idealize.ShloMosaic Idealize.ShloMosaic.TcCoe Idealize.SL.Sem
open Cert.Own.Row

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val / 16, 0, 0] ∧ win0_4.index t = ![0, 0] ∧ win0_5.index t = ![1, 1, 0, 0]
    ∧ win0_6.index t = ![1, 1, 0, 0] ∧ win0_7.index t = ![t.val, 0] :=
  (by decide +kernel : ∀ t : Fin grid0.N, _)

theorem lt_N (t : Fin cfg0.N) : t.val < 64 := lt_of_lt_of_eq t.isLt N_0

theorem blk0 (t : Fin cfg0.N) (r : Fin 512) (k : Fin 1024) : iblk m c 0 t (ix2 r k)
    = m ((c : Thread nD τ).loc main_arg0) (ix2 ⟨512 * t.val + r.val, by have := lt_N t; omega⟩ k) := by
  blk_ext! [iblk, V, idx t]

theorem blk1 (t : Fin cfg0.N) (r : Fin 512) (k : Fin 1024) : iblk m c 1 t (ix2 r k)
    = m ((c : Thread nD τ).loc main_arg1) (ix2 ⟨512 * t.val + r.val, by have := lt_N t; omega⟩ k) := by
  blk_ext! [iblk, V, idx t]

theorem blk3 (t : Fin cfg0.N) (n : Fin 9) (k : Fin 1024) : iblk m c 3 t (ix3 0 n k)
    = m ((c : Thread nD τ).loc main_arg2) (ix3 ⟨t.val / 16, by have := lt_N t; omega⟩ n k) := by
  blk_ext! [iblk, V, idx t]

theorem blk2 (t : Fin cfg0.N) (k j : Fin 1024) : iblk m c 2 t (ix2 k j)
    = m ((c : Thread nD τ).loc main_arg7) (ix3 0 k j) := by
  blk_ext! [iblk, V, idx t]

theorem blk4a (t : Fin cfg0.N) (k : Fin 1024) : iblk m c 4 t (ix2 0 k)
    = m ((c : Thread nD τ).loc main_arg3) (ix3 1 2 k) := by
  blk_simp [iblk, V, idx t]; entry_read; pointwise
  refine (dif_pos (by blk_simp [idx t]; decide)).trans ?_
  blk_ext [idx t]

theorem blk4b (t : Fin cfg0.N) (k : Fin 1024) : iblk m c 4 t (ix2 1 k)
    = m ((c : Thread nD τ).loc main_arg4) (ix1 k) := by
  blk_simp [iblk, V, idx t]; entry_read; pointwise
  refine (dif_neg (by blk_simp [idx t]; decide)).trans ?_
  blk_ext [idx t]

theorem blk5 (t : Fin cfg0.N) (k : Fin 1024) (j : Fin 5632) : iblk m c 5 t (ix4 0 0 k j)
    = m ((c : Thread nD τ).loc main_arg5) (ix4 1 1 k j) := by
  blk_ext! [iblk, V, idx t]

theorem blk6 (t : Fin cfg0.N) (j : Fin 2816) (k : Fin 1024) : iblk m c 6 t (ix4 0 0 j k)
    = m ((c : Thread nD τ).loc main_arg6) (ix4 1 1 j k) := by
  blk_ext! [iblk, V, idx t]

/-- The result's value at a token and a channel. -/
def val (R : Fin 32768) : Row :=
  finalRow (fun k => m ((c : Thread nD τ).loc main_arg0) (ix2 R k)) (fun k => m ((c : Thread nD τ).loc main_arg1) (ix2 R k))
    (fun n k => m ((c : Thread nD τ).loc main_arg2) (ix3 ⟨R.val / 8192, by omega⟩ n k))
    (fun k => m ((c : Thread nD τ).loc main_arg3) (ix3 1 2 k)) (fun k => m ((c : Thread nD τ).loc main_arg4) (ix1 k))
    (fun k j => m ((c : Thread nD τ).loc main_arg5) (ix4 1 1 k j)) (fun j k => m ((c : Thread nD τ).loc main_arg6) (ix4 1 1 j k))
    (fun k j => m ((c : Thread nD τ).loc main_arg7) (ix3 0 k j))

/-- A grid point's row is the row function of the arguments. -/
theorem rowOut_eq (t : Fin cfg0.N) (r : Fin 512) (k : Fin 1024) :
    rowOut (iblk m c 0 t) (iblk m c 1 t) (iblk m c 2 t) (iblk m c 3 t) (iblk m c 4 t) (iblk m c 5 t) (iblk m c 6 t) r k
      = val m c ⟨512 * t.val + r.val, by have := lt_N t; omega⟩ k := by
  have hb : (512 * t.val + r.val) / 8192 = t.val / 16 := by omega
  unfold rowOut rowY rowH rowX wgu wd val finalRow half
  simp only [blk0, blk1, blk2, blk3, blk4a, blk4b, blk5, blk6, hb]

/-- The result array after the run. -/
theorem array : (dats m 0 c).arrAt 7 cfg0.N = fun i => val m c (i 0) (i 1) := by
  refine (dats m 0 c).arrAt_eq_of_covers 7 _ (by decide +kernel) fun t hf y => ?_
  blk_simp
  rw [after0_7]
  idx_vars y
  rw [out_apply, rowOut_eq]
  have e : (win0_7.blk t).view.emb (ix2 y0 y1) = ix2 ⟨512 * t.val + y0.val, by have := lt_N t; omega⟩ y1 := by
    blk_ext [idx t]
  rw [e]
  rfl

end Cert.Own.Final

end
-- ==== Proof.Ffn.FinalRef.lean ====
/- The reference of the last half-step at a token and a channel. -/
module

public import proofs.«01_k».proof.Proof.Gen.FinalRefIdeal.Read
public import proofs.«01_k».proof.Proof.Ffn.Row

@[expose] public section

set_option maxRecDepth 16384

noncomputable section

namespace Cert.Own.FinalRef

open Cert.FinalRefIdeal Cert.FinalRefIdeal.Read Idealize.ShloMosaic Idealize.ShloMosaic.TcCoe Idealize.SL.Sem
open Cert.Own.Row

variable (x0 x1 : (⟨S32768x1024, .f32⟩ : BufTy).Contents (Elt Ideal)) (x2 : (⟨S8x9x1024, .f32⟩ : BufTy).Contents (Elt Ideal))
  (x3 : (⟨S2x3x1024, .f32⟩ : BufTy).Contents (Elt Ideal)) (x4 : (⟨S1024, .f32⟩ : BufTy).Contents (Elt Ideal))
  (x5 : (⟨S2x2x1024x5632, .f32⟩ : BufTy).Contents (Elt Ideal)) (x6 : (⟨S2x2x2816x1024, .f32⟩ : BufTy).Contents (Elt Ideal))
  (x7 : (⟨S1x1024x1024, .f32⟩ : BufTy).Contents (Elt Ideal))

/-- The row after the mixer's residual. -/
def rowX (R : Fin 32768) : Row :=
  mixed (fun k => x0 (ix2 R k)) (fun k => x1 (ix2 R k)) (fun k => x2 (ix3 ⟨R.val / 8192, by omega⟩ 5 k)) (fun k j => x7 (ix3 0 k j))

/-- The token of batch element `b` at place `s`. -/
def tok (b : Fin 4) (s : Fin 8192) : Fin 32768 := ⟨b.val * 8192 + s.val, by omega⟩

theorem v33_apply (b : Fin 4) (s : Fin 8192) (k : Fin 1024) :
    val_main_v33 x0 x1 x2 x7 (ix3 b s k) = rowX x0 x1 x2 x7 (tok b s) k := by
  have hb : (b.val * 8192 + s.val) / 8192 = b.val := by omega
  pointwise [val_main_v33, val_main_v27, val_main_v32, val_main_v31, val_main_v30, val_main_v29, val_main_v28, val_main_v17, val_main_v16, val_main_v15,
    rowX, mixed, tok]
  simp only [hb]

/-- Its modulated norm. -/
def rowH (R : Fin 32768) : Row :=
  modded (rowX x0 x1 x2 x7 R) (fun k => x3 (ix3 1 2 k)) (fun k => x2 (ix3 ⟨R.val / 8192, by omega⟩ 6 k))
    (fun k => x2 (ix3 ⟨R.val / 8192, by omega⟩ 7 k))

theorem v56_apply (b : Fin 4) (s : Fin 8192) (k : Fin 1024) :
    val_main_v56 x0 x1 x2 x3 x7 (ix3 b s k) = rowH x0 x1 x2 x3 x7 (tok b s) k := by
  have hb : (b.val * 8192 + s.val) / 8192 = b.val := by omega
  simp only [rowH, modded, normed, rinv]
  pointwise [val_main_v56, val_main_v55, val_main_v54, val_main_v53, val_main_v52, val_main_v51, val_main_cst_3, val_main_v50,
    val_main_v49, val_main_v48, val_main_v47, val_main_v46, val_main_v45, val_main_v44, val_main_v43, val_main_cst_2, val_main_v42,
    val_main_v41, val_main_cst_1, val_main_v40, val_main_v39, val_main_cst_0, val_main_v38, val_main_v37, val_main_v36,
    val_main_v23, val_main_v22, val_main_v21, val_main_v20, val_main_v19, val_main_v18, v33_apply, tok]
  simp only [hb]

/-- The hidden units' projection. -/
theorem v61_apply (b : Fin 4) (s : Fin 8192) (j : Fin 5632) : val_main_v61 x0 x1 x2 x3 x5 x7 (ix3 b s j)
    = proj (rowH x0 x1 x2 x3 x7 (tok b s)) (fun k j => x5 (ix4 1 1 k j)) j := by
  simp only [proj]
  pointwise [val_main_v61, v56_apply, val_main_v58, val_main_v57]

theorem v65_apply (b : Fin 4) (s : Fin 8192) (j : Fin 2816) : val_main_v65 x0 x1 x2 x3 x5 x7 (ix3 b s j)
    = act (rowH x0 x1 x2 x3 x7 (tok b s)) (fun k j => x5 (ix4 1 1 k j)) j := by
  simp only [act]
  pointwise [val_main_v65, val_main_v64, val_main_call0_v0, val_main_call0_v1, val_main_call0_v2, val_main_call0_v3,
    val_main_call0_v4, val_main_call0_v5, val_main_call0_cst, val_main_call0_cst_0, val_main_v63, val_main_v62, v61_apply]
  rfl

/-- The row after the half-step. -/
def rowY (R : Fin 32768) : Row := fun c =>
  rowX x0 x1 x2 x7 R c + Ideal.ofBits FTy.f32 1056964608#32 * x2 (ix3 ⟨R.val / 8192, by omega⟩ 8 c)
    * swiglu (rowH x0 x1 x2 x3 x7 R) (fun k j => x5 (ix4 1 1 k j)) (fun j k => x6 (ix4 1 1 j k)) c

theorem v69_apply (b : Fin 4) (s : Fin 8192) (k : Fin 1024) : val_main_v69 x0 x1 x2 x3 x5 x6 x7 (ix3 b s k)
    = rowY x0 x1 x2 x3 x5 x6 x7 (tok b s) k := by
  have hb : (b.val * 8192 + s.val) / 8192 = b.val := by omega
  simp only [rowY, swiglu]
  pointwise [val_main_v69, val_main_v68, val_main_v67, val_main_v66, val_main_v60, val_main_v59, v65_apply, v33_apply,
    val_main_v35, val_main_v34, val_main_cst, val_main_v26, val_main_v25, val_main_v24, tok]
  simp only [hb]

theorem v83_apply (R : Fin 32768) (k : Fin 1024) : val_main_v83 x0 x1 x2 x3 x4 x5 x6 x7 (ix2 R k)
    = normed (rowY x0 x1 x2 x3 x5 x6 x7 R) (fun k => x4 (ix1 k)) k := by
  have hR : (⟨R.val / 8192 * 8192 + R.val % 8192, by omega⟩ : Fin 32768) = R := Fin.ext (by dsimp only; omega)
  simp only [normed, rinv]
  pointwise [val_main_v83, val_main_v82, val_main_v81, val_main_v80, val_main_v79, val_main_v78, val_main_v77, val_main_v76, val_main_v75,
   val_main_v74, val_main_v73, val_main_v72, val_main_v71, val_main_v70, val_main_cst_4, val_main_cst_5, val_main_cst_6, v69_apply, tok]
  simp only [hR]

end Cert.Own.FinalRef

end
-- ==== Proof.Ffn.FinalClaim.lean ====
/- The last half-step's kernel and its reference leave equal results, element by element over the extended reals. -/
module

public import proofs.«01_k».proof.Defs
public import proofs.«01_k».proof.Proof.Ffn.FinalArray
public import proofs.«01_k».proof.Proof.Ffn.FinalRef

@[expose] public section

set_option maxRecDepth 16384

noncomputable section

namespace Cert.Own.Final

open Idealize.ShloMosaic Idealize.ShloMosaic.TcCoe Idealize.SL.Sem

theorem algebraic : Cert.algebraic_FinalIdeal_FinalRefIdeal := by
  intro m g m' g' _ hagree
  refine ⟨fun c i => val m c (i 0) (i 1), ?_, ?_⟩
  · exact (θ_run Cert.FinalIdeal.defs _ _).mono (fun _ h c => ⟨(h c).1.trans (array m c), (h c).2⟩)
      (Cert.FinalIdeal.Value.run_blocks (F := Ideal) m g)
  · refine (θ_run Cert.FinalRefIdeal.defs _ _).mono (fun _ h c => ⟨(h c).1.trans ?_, (h c).2⟩)
      (Cert.FinalRefIdeal.Value.run (F := Ideal) m' g')
    rw [Cert.FinalRefIdeal.Read.val_main_v83_eq]
    obtain ⟨h0, h1, h2, h3, h4, h5, h6, h7⟩ := hagree c
    rw [h0, h1, h2, h3, h4, h5, h6, h7]
    funext i
    idx_vars i
    exact Cert.Own.FinalRef.v83_apply _ _ _ _ _ _ _ _ i0 i1

end Cert.Own.Final

end
-- ==== Proof.Ffn.FirstBlock.lean ====
/- What one grid point of the first half-step writes to its two results: row `r` of its block of 512 tokens, as a function of the input
   windows' blocks. The body works on two halves of 256 rows and on two halves of the hidden width. -/
module

public import proofs.«01_k».proof.Proof.Gen.FirstIdeal.Value
public import proofs.«01_k».proof.Proof.Ffn.Row

@[expose] public section

set_option maxRecDepth 16384

noncomputable section

namespace Cert.Own.First

open Cert.FirstIdeal Cert.FirstIdeal.Gen Idealize.ShloMosaic Idealize.ShloMosaic.TcCoe Idealize.SL.Sem
open Cert.Own.Row

variable (x0 : Vec Ideal S512x1024 .f32) (x1 : Vec Ideal S1x9x1024 .f32)
  (x2 : Vec Ideal S2x1024 .f32) (x3 : Vec Ideal S1x1x1024x5632 .bf16) (x4 : Vec Ideal S1x1x2816x1024 .bf16)

/-- Row `r` of the block. -/
def rowX (r : Fin 512) : Row := fun k => x0 (ix2 r k)

/-- Its modulated norm. -/
def rowH (r : Fin 512) : Row :=
  modded (rowX x0 r) (fun k => x2 (ix2 0 k)) (fun k => x1 (ix3 0 0 k)) (fun k => x1 (ix3 0 1 k))

/-- The gate-and-up weights as a matrix. -/
def wgu (k : Fin 1024) (j : Fin 5632) : EReal := x3 (ix4 0 0 k j)
/-- The down weights as a matrix. -/
def wd (j : Fin 2816) (c : Fin 1024) : EReal := x4 (ix4 0 0 j c)

/-- The row after the half-step. -/
def rowY (r : Fin 512) : Row := fun c =>
  rowX x0 r c + Ideal.ofBits FTy.f32 1056964608#32 * x1 (ix3 0 2 c) * swiglu (rowH x0 x1 x2 r) (wgu x3) (wd x4) c

/-- The next block's modulated norm of it. -/
def rowOut (r : Fin 512) : Row :=
  modded (rowY x0 x1 x2 x3 x4 r) (fun k => x2 (ix2 1 k)) (fun k => x1 (ix3 0 3 k)) (fun k => x1 (ix3 0 4 k))

theorem pay23_apply (n : Fin 9) (c : Fin 1024) : k0_pay23 x0 x1 x2 x3 x4 (ix2 n c) = x1 (ix3 0 n c) := by
  pointwise [k0_pay23, k0_pay2, r0_0]

theorem pay24_apply (n : Fin 2) (c : Fin 1024) : k0_pay24 x0 x1 x2 x3 x4 (ix2 n c) = x2 (ix2 n c) := by
  pointwise [k0_pay24, k0_pay3, r0_1]

theorem hLow_apply (r : Fin 256) (c : Fin 1024) : k0_pay4 (View.ld x1 r0_0) (View.ld x2 r0_1) (View.ld x0 r0_2) (ix2 r c)
      = rowH x0 x1 x2 ⟨r.val, by omega⟩ c := by
  pointwise [k0_pay4, k0_pay3, k0_pay2, r0_0, r0_1, r0_2, rowH, modded, normed, rinv, rowX]

theorem hHigh_apply (r : Fin 256) (c : Fin 1024) : k0_pay9 (k0_pay23 x0 x1 x2 x3 x4) (View.ld x0 r0_5)
      (k0_pay7 (View.ld x2 r0_1)) (k0_pay8 (View.ld x1 r0_0)) (ix2 r c)
      = rowH x0 x1 x2 ⟨256 + r.val, by omega⟩ c := by
  pointwise [k0_pay9, k0_pay8, k0_pay7, pay23_apply, k0_pay3, k0_pay2, r0_0, r0_1, r0_5, rowH, modded, normed, rinv, rowX]

theorem pay29_apply (r : Fin 256) (c : Fin 1024) : k0_pay29 x0 x1 x2 x3 x4 (ix2 r c)
    = swiglu (rowH x0 x1 x2 ⟨r.val, by omega⟩) (wgu x3) (wd x4) c := by
  simp only [swiglu_halves]
  pointwise [k0_pay29, k0_pay13, k0_pay10, k0_pay5, k0_pay6, hLow_apply, r0_3, r0_4, r0_6, r0_7, r0_8, r0_9, act, proj, wgu, wd]
  simp only [← Nat.add_assoc, Nat.reduceAdd]

theorem high_apply (r : Fin 256) (c : Fin 1024) :
    k0_pay18 (k0_pay23 x0 x1 x2 x3 x4) (View.ld x0 r0_5) (k0_pay28 x0 x1 x2 x3 x4) (k0_pay30 x0 x1 x2 x3 x4)
      (k0_pay31 x0 x1 x2 x3 x4) (k0_pay27 x0 x1 x2 x3 x4) (ix2 r c)
    = rowY x0 x1 x2 x3 x4 ⟨256 + r.val, by omega⟩ c := by
  simp only [rowY, swiglu_halves]
  pointwise [k0_pay18, k0_pay27, k0_pay28, k0_pay30, k0_pay31, k0_pay12, k0_pay11, k0_pay14, k0_pay15, k0_pay25, k0_pay26,
    hHigh_apply, pay23_apply, r0_3, r0_4, r0_5, r0_6, r0_7, r0_8, r0_9, act, proj, wgu, wd, rowX]
  simp only [← Nat.add_assoc, Nat.reduceAdd]

theorem low_apply (r : Fin 256) (c : Fin 1024) :
    k0_pay16 (k0_pay23 x0 x1 x2 x3 x4) (View.ld x0 r0_2) (k0_pay29 x0 x1 x2 x3 x4) (ix2 r c)
    = rowY x0 x1 x2 x3 x4 ⟨r.val, by omega⟩ c := by
  pointwise [k0_pay16, pay29_apply, pay23_apply, r0_2, rowY, rowX]

theorem lowOut_apply (r : Fin 256) (c : Fin 1024) :
    k0_pay17 (k0_pay23 x0 x1 x2 x3 x4) (k0_pay24 x0 x1 x2 x3 x4) (View.ld x0 r0_2) (k0_pay29 x0 x1 x2 x3 x4) (ix2 r c)
    = rowOut x0 x1 x2 x3 x4 ⟨r.val, by omega⟩ c := by
  simp only [rowOut, modded, normed, rinv]
  pointwise [k0_pay17, k0_pay16, pay29_apply, pay23_apply, pay24_apply, r0_2, rowY, rowX]

theorem highOut_apply (r : Fin 256) (c : Fin 1024) :
    k0_pay1 (k0_pay18 (k0_pay23 x0 x1 x2 x3 x4) (View.ld x0 r0_5) (k0_pay28 x0 x1 x2 x3 x4) (k0_pay30 x0 x1 x2 x3 x4)
        (k0_pay31 x0 x1 x2 x3 x4) (k0_pay27 x0 x1 x2 x3 x4)) (k0_pay19 (k0_pay24 x0 x1 x2 x3 x4)) (k0_pay20 (k0_pay23 x0 x1 x2 x3 x4))
      (k0_pay21 (k0_pay23 x0 x1 x2 x3 x4)) (k0_pay22 (k0_pay23 x0 x1 x2 x3 x4) (View.ld x0 r0_5) (k0_pay28 x0 x1 x2 x3 x4)
        (k0_pay30 x0 x1 x2 x3 x4) (k0_pay31 x0 x1 x2 x3 x4) (k0_pay27 x0 x1 x2 x3 x4)) (ix2 r c)
    = rowOut x0 x1 x2 x3 x4 ⟨256 + r.val, by omega⟩ c := by
  simp only [rowOut, modded, normed, rinv]
  pointwise [k0_pay1, k0_pay19, k0_pay20, k0_pay21, k0_pay22, high_apply, pay23_apply, pay24_apply]

/-- What a grid point leaves in its block of the residual stream. -/
theorem out5_apply (R : Fin 512) (c : Fin 1024) :
    out0_5 x0 x1 x2 x3 x4 (ix2 R c) = rowY x0 x1 x2 x3 x4 R c := by
  unfold out0_5
  canon_tiles x h
  · idx_vars x
    refine (high_apply _ _ _ _ _ _ _).trans ?_
    exact congrArg₂ _ (Fin.ext h0.symm) (Fin.ext h1.symm)
  · idx_vars x
    refine (low_apply _ _ _ _ _ _ _).trans ?_
    exact congrArg₂ _ (Fin.ext h0.symm) (Fin.ext h1.symm)

/-- What a grid point leaves in its block of the next block's input. -/
theorem out6_apply (R : Fin 512) (c : Fin 1024) :
    out0_6 x0 x1 x2 x3 x4 (ix2 R c) = rowOut x0 x1 x2 x3 x4 R c := by
  unfold out0_6
  canon_tiles x h
  · idx_vars x
    refine (highOut_apply _ _ _ _ _ _ _).trans ?_
    exact congrArg₂ _ (Fin.ext h0.symm) (Fin.ext h1.symm)
  · idx_vars x
    refine (lowOut_apply _ _ _ _ _ _ _).trans ?_
    exact congrArg₂ _ (Fin.ext h0.symm) (Fin.ext h1.symm)

end Cert.Own.First

end
-- ==== Proof.Ffn.FirstArray.lean ====
/- What the first half-step's kernel leaves in its two result arrays: at token `R` and channel `c` row functions of the
   argument arrays, the modulations those of the token's batch element. -/
module

public import proofs.«01_k».proof.Proof.Ffn.FirstBlock

@[expose] public section

set_option maxRecDepth 16384

noncomputable section

namespace Cert.Own.First

open Cert.FirstIdeal Cert.FirstIdeal.Gen Idealize.ShloMosaic Idealize.ShloMosaic.TcCoe Idealize.SL.Sem
open Cert.Own.Row

variable (m : (ℓ : Loc nD τ sig) → Buf (Elt Ideal) ℓ) (c : Dev nD)

theorem idx : ∀ t : Fin cfg0.N, win0_0.index t = ![t.val, 0] ∧ win0_1.index t = ![t.val / 16, 0, 0] ∧ win0_2.index t = ![0, 0]
    ∧ win0_3.index t = ![0, 0, 0, 0] ∧ win0_4.index t = ![0, 0, 0, 0] ∧ win0_5.index t = ![t.val, 0]
    ∧ win0_6.index t = ![t.val, 0] :=
  (by decide +kernel : ∀ t : Fin grid0.N, _)

theorem lt_N (t : Fin cfg0.N) : t.val < 64 := lt_of_lt_of_eq t.isLt N_0

theorem blk0 (t : Fin cfg0.N) (r : Fin 512) (k : Fin 1024) : iblk m c 0 t (ix2 r k)
    = m ((c : Thread nD τ).loc main_arg0) (ix2 ⟨512 * t.val + r.val, by have := lt_N t; omega⟩ k) := by
  blk_ext! [iblk, V, idx t]

theorem blk1 (t : Fin cfg0.N) (n : Fin 9) (k : Fin 1024) : iblk m c 1 t (ix3 0 n k)
    = m ((c : Thread nD τ).loc main_arg1) (ix3 ⟨t.val / 16, by have := lt_N t; omega⟩ n k) := by
  blk_ext! [iblk, V, idx t]

theorem blk2a (t : Fin cfg0.N) (k : Fin 1024) : iblk m c 2 t (ix2 0 k)
    = m ((c : Thread nD τ).loc main_arg2) (ix3 0 0 k) := by
  blk_ext! [iblk, V, idx t]

theorem blk2b (t : Fin cfg0.N) (k : Fin 1024) : iblk m c 2 t (ix2 1 k)
    = m ((c : Thread nD τ).loc main_arg2) (ix3 0 1 k) := by
  blk_ext! [iblk, V, idx t]

theorem blk3 (t : Fin cfg0.N) (k : Fin 1024) (j : Fin 5632) : iblk m c 3 t (ix4 0 0 k j)
    = m ((c : Thread nD τ).loc main_arg3) (ix4 0 0 k j) := by
  blk_ext! [iblk, V, idx t]

theorem blk4 (t : Fin cfg0.N) (j : Fin 2816) (k : Fin 1024) : iblk m c 4 t (ix4 0 0 j k)
    = m ((c : Thread nD τ).loc main_arg4) (ix4 0 0 j k) := by
  blk_ext! [iblk, V, idx t]

/-- The residual stream's value at a token and a channel. -/
def val (R : Fin 32768) : Row :=
  firstRow (fun k => m ((c : Thread nD τ).loc main_arg0) (ix2 R k))
    (fun n k => m ((c : Thread nD τ).loc main_arg1) (ix3 ⟨R.val / 8192, by omega⟩ n k))
    (fun k => m ((c : Thread nD τ).loc main_arg2) (ix3 0 0 k))
    (fun k j => m ((c : Thread nD τ).loc main_arg3) (ix4 0 0 k j)) (fun j k => m ((c : Thread nD τ).loc main_arg4) (ix4 0 0 j k))

/-- The next block's input at a token and a channel. -/
def next (R : Fin 32768) : Row :=
  nextRow (fun k => m ((c : Thread nD τ).loc main_arg0) (ix2 R k))
    (fun n k => m ((c : Thread nD τ).loc main_arg1) (ix3 ⟨R.val / 8192, by omega⟩ n k))
    (fun k => m ((c : Thread nD τ).loc main_arg2) (ix3 0 0 k)) (fun k => m ((c : Thread nD τ).loc main_arg2) (ix3 0 1 k))
    (fun k j => m ((c : Thread nD τ).loc main_arg3) (ix4 0 0 k j)) (fun j k => m ((c : Thread nD τ).loc main_arg4) (ix4 0 0 j k))

/-- A grid point's rows are the row functions of the arguments. -/
theorem rowY_eq (t : Fin cfg0.N) (r : Fin 512) (k : Fin 1024) :
    rowY (iblk m c 0 t) (iblk m c 1 t) (iblk m c 2 t) (iblk m c 3 t) (iblk m c 4 t) r k
      = val m c ⟨512 * t.val + r.val, by have := lt_N t; omega⟩ k := by
  have hb : (512 * t.val + r.val) / 8192 = t.val / 16 := by omega
  unfold rowY rowH rowX wgu wd val firstRow half
  simp only [blk0, blk1, blk2a, blk3, blk4, hb]

theorem rowOut_eq (t : Fin cfg0.N) (r : Fin 512) (k : Fin 1024) :
    rowOut (iblk m c 0 t) (iblk m c 1 t) (iblk m c 2 t) (iblk m c 3 t) (iblk m c 4 t) r k
      = next m c ⟨512 * t.val + r.val, by have := lt_N t; omega⟩ k := by
  have hb : (512 * t.val + r.val) / 8192 = t.val / 16 := by omega
  unfold rowOut rowY rowH rowX wgu wd next nextRow firstRow half
  simp only [blk0, blk1, blk2a, blk2b, blk3, blk4, hb]

/-- The result arrays after the run. -/
theorem array5 : (dats m 0 c).arrAt 5 cfg0.N = fun i => val m c (i 0) (i 1) := by
  refine (dats m 0 c).arrAt_eq_of_covers 5 _ (by decide +kernel) fun t hf y => ?_
  blk_simp
  rw [after0_5]
  idx_vars y
  rw [out5_apply, rowY_eq]
  have e : (win0_5.blk t).view.emb (ix2 y0 y1) = ix2 ⟨512 * t.val + y0.val, by have := lt_N t; omega⟩ y1 := by
    blk_ext [idx t]
  rw [e]
  rfl

theorem array6 : (dats m 0 c).arrAt 6 cfg0.N = fun i => next m c (i 0) (i 1) := by
  refine (dats m 0 c).arrAt_eq_of_covers 6 _ (by decide +kernel) fun t hf y => ?_
  blk_simp
  rw [after0_6]
  idx_vars y
  rw [out6_apply, rowOut_eq]
  have e : (win0_6.blk t).view.emb (ix2 y0 y1) = ix2 ⟨512 * t.val + y0.val, by have := lt_N t; omega⟩ y1 := by
    blk_ext [idx t]
  rw [e]
  rfl

end Cert.Own.First

end
-- ==== Proof.Ffn.FirstRef.lean ====
/- The reference of the first half-step at a token and a channel. -/
module

public import proofs.«01_k».proof.Proof.Gen.FirstRefIdeal.Read
public import proofs.«01_k».proof.Proof.Ffn.Row

@[expose] public section

set_option maxRecDepth 16384

noncomputable section

namespace Cert.Own.FirstRef

open Cert.FirstRefIdeal Cert.FirstRefIdeal.Read Idealize.ShloMosaic Idealize.ShloMosaic.TcCoe Idealize.SL.Sem
open Cert.Own.Row

variable (x0 : (⟨S32768x1024, .f32⟩ : BufTy).Contents (Elt Ideal)) (x1 : (⟨S8x9x1024, .f32⟩ : BufTy).Contents (Elt Ideal))
  (x2 : (⟨S2x3x1024, .f32⟩ : BufTy).Contents (Elt Ideal))
  (x3 : (⟨S2x2x1024x5632, .f32⟩ : BufTy).Contents (Elt Ideal)) (x4 : (⟨S2x2x2816x1024, .f32⟩ : BufTy).Contents (Elt Ideal))

/-- The modulated norm of a token's row. -/
def rowH (R : Fin 32768) : Row :=
  modded (fun k => x0 (ix2 R k)) (fun k => x2 (ix3 0 0 k)) (fun k => x1 (ix3 ⟨R.val / 8192, by omega⟩ 0 k))
    (fun k => x1 (ix3 ⟨R.val / 8192, by omega⟩ 1 k))

/-- The token of batch element `b` at place `s`. -/
def tok (b : Fin 4) (s : Fin 8192) : Fin 32768 := ⟨b.val * 8192 + s.val, by omega⟩

theorem v50_apply (b : Fin 4) (s : Fin 8192) (k : Fin 1024) :
    val_main_v50 x0 x1 x2 (ix3 b s k) = rowH x0 x1 x2 (tok b s) k := by
  have hb : (b.val * 8192 + s.val) / 8192 = b.val := by omega
  simp only [rowH, modded, normed, rinv]
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_v0, val_main_v1, val_main_v2, val_main_v3, val_main_v4, val_main_v5, tok]
  simp only [hb]

/-- The hidden units' projection. -/
theorem v55_apply (b : Fin 4) (s : Fin 8192) (j : Fin 5632) : val_main_v55 x0 x1 x2 x3 (ix3 b s j)
    = proj (rowH x0 x1 x2 (tok b s)) (fun k j => x3 (ix4 0 0 k j)) j := by
  simp only [proj]
  pointwise [val_main_v55, v50_apply, val_main_v52, val_main_v51]

theorem v59_apply (b : Fin 4) (s : Fin 8192) (j : Fin 2816) : val_main_v59 x0 x1 x2 x3 (ix3 b s j)
    = act (rowH x0 x1 x2 (tok b s)) (fun k j => x3 (ix4 0 0 k j)) j := by
  simp only [act]
  pointwise [val_main_v59, val_main_v58, val_main_v57, val_main_v56, v55_apply, val_main_call0_v0, val_main_call0_v1, val_main_call0_v2,
    val_main_call0_v3, val_main_call0_v4, val_main_call0_v5, val_main_call0_cst, val_main_call0_cst_0]
  rfl

/-- The row after the half-step. -/
def rowY (R : Fin 32768) : Row :=
  firstRow (fun k => x0 (ix2 R k)) (fun n k => x1 (ix3 ⟨R.val / 8192, by omega⟩ n k)) (fun k => x2 (ix3 0 0 k))
    (fun k j => x3 (ix4 0 0 k j)) (fun j k => x4 (ix4 0 0 j k))

theorem rowY_eq (R : Fin 32768) (c : Fin 1024) : rowY x0 x1 x2 x3 x4 R c
    = x0 (ix2 R c) + Ideal.ofBits FTy.f32 1056964608#32 * x1 (ix3 ⟨R.val / 8192, by omega⟩ 2 c)
      * swiglu (rowH x0 x1 x2 R) (fun k j => x3 (ix4 0 0 k j)) (fun j k => x4 (ix4 0 0 j k)) c := rfl

theorem v63_apply (b : Fin 4) (s : Fin 8192) (k : Fin 1024) : val_main_v63 x0 x1 x2 x3 x4 (ix3 b s k)
    = rowY x0 x1 x2 x3 x4 (tok b s) k := by
  have hb : (b.val * 8192 + s.val) / 8192 = b.val := by omega
  simp only [rowY_eq, swiglu]
  pointwise [val_main_v63, val_main_v62, val_main_v61, val_main_v60, v59_apply, val_main_v54, val_main_v53, val_main_v29, val_main_v28,
    val_main_cst, val_main_v27, val_main_v8, val_main_v7, val_main_v6, tok]
  simp only [hb]

theorem v85_apply (R : Fin 32768) (k : Fin 1024) :
    val_main_v85 x0 x1 x2 x3 x4 (ix2 R k) = rowY x0 x1 x2 x3 x4 R k := by
  have hR : (⟨R.val / 8192 * 8192 + R.val % 8192, by omega⟩ : Fin 32768) = R := Fin.ext (by dsimp only; omega)
  pointwise [val_main_v85, v63_apply, tok]
  simp only [hR]

theorem v86_apply (R : Fin 32768) (k : Fin 1024) : val_main_v86 x0 x1 x2 x3 x4 (ix2 R k)
    = nextRow (fun k => x0 (ix2 R k)) (fun n k => x1 (ix3 ⟨R.val / 8192, by omega⟩ n k)) (fun k => x2 (ix3 0 0 k))
      (fun k => x2 (ix3 0 1 k)) (fun k j => x3 (ix4 0 0 k j)) (fun j k => x4 (ix4 0 0 j k)) k := by
  have hR : (⟨R.val / 8192 * 8192 + R.val % 8192, by omega⟩ : Fin 32768) = R := Fin.ext (by dsimp only; omega)
  show _ = modded (rowY x0 x1 x2 x3 x4 R) (fun k => x2 (ix3 0 1 k)) (fun k => x1 (ix3 ⟨R.val / 8192, by omega⟩ 3 k))
    (fun k => x1 (ix3 ⟨R.val / 8192, by omega⟩ 4 k)) k
  simp only [modded, normed, rinv]
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v86, val_main_cst_4, val_main_cst_5, val_main_cst_6, val_main_cst_7, val_main_v9, val_main_v10, val_main_v11, val_main_v12, val_main_v13, val_main_v14, v63_apply, tok]
  simp only [hR]

end Cert.Own.FirstRef

end
-- ==== Proof.Ffn.FirstClaim.lean ====
/- The first half-step's kernel and its reference leave equal results, element by element over the extended reals. -/
module

public import proofs.«01_k».proof.Defs
public import proofs.«01_k».proof.Proof.Ffn.FirstArray
public import proofs.«01_k».proof.Proof.Ffn.FirstRef

@[expose] public section

set_option maxRecDepth 16384

noncomputable section

namespace Cert.Own.First

open Idealize.ShloMosaic Idealize.ShloMosaic.TcCoe Idealize.SL.Sem

theorem algebraic : Cert.algebraic_FirstIdeal_FirstRefIdeal := by
  intro m g m' g' _ hagree
  refine ⟨fun c i => val m c (i 0) (i 1), fun c i => next m c (i 0) (i 1), ?_, ?_⟩
  · exact (θ_run Cert.FirstIdeal.defs _ _).mono (fun _ h c => ⟨(h c).1.trans (array5 m c), (h c).2.1.trans (array6 m c), (h c).2.2⟩)
      (Cert.FirstIdeal.Value.run_blocks (F := Ideal) m g)
  · refine (θ_run Cert.FirstRefIdeal.defs _ _).mono (fun _ h c => ⟨(h c).1.trans ?_, (h c).2.1.trans ?_, (h c).2.2⟩)
      (Cert.FirstRefIdeal.Value.run (F := Ideal) m' g')
    · rw [Cert.FirstRefIdeal.Read.val_main_v85_eq]
      obtain ⟨h0, h1, h2, h3, h4⟩ := hagree c
      rw [h0, h1, h2, h3, h4]
      funext i
      idx_vars i
      exact Cert.Own.FirstRef.v85_apply _ _ _ _ _ i0 i1
    · rw [Cert.FirstRefIdeal.Read.val_main_v86_eq]
      obtain ⟨h0, h1, h2, h3, h4⟩ := hagree c
      rw [h0, h1, h2, h3, h4]
      funext i
      idx_vars i
      exact Cert.Own.FirstRef.v86_apply _ _ _ _ _ i0 i1

end Cert.Own.First

end
-- ==== Proof.Ffn.GroupNorm.lean ====
/- The group norm of one token's row: each head of 64 channels is centred and divided by the root of its variance. The
   kernel sums a head by a product with a 128 by 128 matrix of zeros and ones, on the row and on what rounding the row
   left over; on finite rows the second part is zero and the product is the head's sum. -/
module

public import proofs.«01_k».proof.Proof.Ffn.Row

@[expose] public section

set_option maxRecDepth 16384

noncomputable section

namespace Cert.Own.Row

open Idealize.ShloMosaic

/-- 1/64 as the kernel's word. -/
theorem sixtyFourth : Ideal.ofBits FTy.f32 1015021568#32 = ((1 / 64 : ℝ) : EReal) := by
  simp [Ideal.ofBits, Ideal.ieee, -EReal.coe_mul]; norm_num

/-- 64 as the reference's word. -/
theorem sixtyFour : Ideal.ofBits FTy.f32 1115684864#32 = ((64 : ℝ) : EReal) := by
  simp [Ideal.ofBits, Ideal.ieee, -EReal.coe_mul]; norm_num

/-- The bound of the precondition is the greatest extended real. -/
theorem infWord : Ideal.ofBits FTy.f32 2139095040#32 = ⊤ := by
  simp [Ideal.ofBits, Ideal.ieee, -EReal.coe_mul]

theorem div_sixtyFour (x : EReal) : Ideal.div x (Ideal.ofBits FTy.f32 1115684864#32) = x * Ideal.ofBits FTy.f32 1015021568#32 := by
  rw [sixtyFour, sixtyFourth, Ideal.div_coe (by norm_num)]

/-- Every entry is a real number. -/
def Tame {α : Type} (y : α → EReal) : Prop := ∃ a : α → ℝ, y = fun k => (a k : EReal)

/-- The sum over the head that channel `c` belongs to. -/
def headSum (y : Row) : Row := fun c => ∑ k : Fin 64, y ⟨c.val / 64 * 64 + k.val, by omega⟩

/-- The row less its heads' means. -/
def centred (y : Row) : Row := fun c => y c - headSum y c * Ideal.ofBits FTy.f32 1015021568#32

/-- The heads' variances. -/
def variance (y : Row) : Row := fun c => headSum (fun k => centred y k * centred y k) c * Ideal.ofBits FTy.f32 1015021568#32

/-- The group norm with its weight and its bias. -/
def grouped (y lg lb : Row) : Row := fun c =>
  centred y c * Ideal.rsqrt (variance y c + Ideal.ofBits FTy.f32 975685036#32) * lg c + lb c

/-- What the mixer's output weights are applied to. -/
def gatedMix (y bonus g lg lb : Row) : Row := fun c => (grouped y lg lb c + bonus c) * g c

/-- The second half-step's row: the recurrent mixer's residual and the half-step. -/
def middleRow (x yf yb bonus ga : Row) (mo : Fin 9 → Row) (g : Row) (W : Fin 1024 → Fin 5632 → EReal) (D : Fin 2816 → Fin 1024 → EReal)
    (lg lb : Row) (Wo : Fin 1024 → Fin 1024 → EReal) : Row :=
  half (mixed x (gatedMix (fun k => yf k + yb k) bonus ga lg lb) (mo 5) Wo) g (mo 6) (mo 7) (mo 8) W D

theorem coe_sum {n : ℕ} (a : Fin n → ℝ) : (∑ k, (a k : EReal)) = ((∑ k, a k : ℝ) : EReal) := by
  induction n with
  | zero => simp
  | succ n ih => rw [Fin.sum_univ_succ, Fin.sum_univ_succ, ih, EReal.coe_add]

theorem Tame.headSum {y : Row} (h : Tame y) : Tame (headSum y) := by
  obtain ⟨a, rfl⟩ := h
  exact ⟨_, funext fun c => coe_sum _⟩

theorem Tame.centred {y : Row} (h : Tame y) : Tame (centred y) := by
  obtain ⟨s, hs⟩ := h.headSum
  obtain ⟨a, rfl⟩ := h
  refine ⟨fun c => a c - s c * (1 / 64), funext fun c => ?_⟩
  simp only [Row.centred, hs, sixtyFourth]
  norm_cast

theorem Tame.square {y : Row} (h : Tame y) : Tame fun c => Row.centred y c * Row.centred y c := by
  obtain ⟨s, hs⟩ := h.centred
  refine ⟨fun c => s c * s c, funext fun c => ?_⟩
  simp only [hs, EReal.coe_mul]

theorem dite_of {p : Prop} [Decidable p] {a : p → EReal} {b : ¬p → EReal} {v : EReal} (ha : ∀ h, a h = v) (hb : ∀ h, b h = v) :
    dite p a b = v := by
  by_cases h : p
  · rw [dif_pos h, ha]
  · rw [dif_neg h, hb]

/-- The product with the matrix of zeros and ones is the head's sum. -/
theorem headSum_of {y : Row} (hy : Tame y) {E : Fin 128 → Fin 128 → EReal}
    (hE : ∀ k j, E k j = if k.val / 64 = j.val / 64 then 1 else 0) {o : ℕ} {c : Fin 1024} {p : Fin 128 → Fin 1024}
    (hp : ∀ x, (p x).val = o + x.val) {j : Fin 128} (hj : o + j.val = c.val) (ho : 128 ∣ o) :
    (∑ x, y (p x) * E x j) + ∑ x, (y (p x) - y (p x)) * E x j = headSum y c := by
  obtain ⟨a, rfl⟩ := hy
  have h0 : ∀ x, ((a (p x) : EReal) - (a (p x) : EReal)) * E x j = 0 := fun x => by
    rw [← EReal.coe_sub, sub_self, EReal.coe_zero, zero_mul]
  simp only [h0, Finset.sum_const_zero, add_zero]
  simp only [hE, mul_ite, mul_one, mul_zero]
  rw [Fin.sum_univ_two_halves 64 64 rfl]
  obtain ⟨q, rfl⟩ := ho
  unfold headSum
  by_cases h : j.val < 64
  · have e1 : ∀ x : Fin 64, (x.val / 64 = j.val / 64) = True := fun x => by simp only [eq_iff_iff, iff_true]; omega
    have e2 : ∀ x : Fin 64, ((64 + x.val) / 64 = j.val / 64) = False := fun x => by simp only [eq_iff_iff, iff_false]; omega
    simp only [e1, e2, if_true, if_false, Finset.sum_const_zero, add_zero]
    refine Finset.sum_congr rfl fun x _ => congrArg (fun t => ((a t : ℝ) : EReal)) (Fin.ext ?_)
    rw [hp]; dsimp only; omega
  · have e1 : ∀ x : Fin 64, (x.val / 64 = j.val / 64) = False := fun x => by simp only [eq_iff_iff, iff_false]; omega
    have e2 : ∀ x : Fin 64, ((64 + x.val) / 64 = j.val / 64) = True := fun x => by simp only [eq_iff_iff, iff_true]; omega
    simp only [e1, e2, if_true, if_false, Finset.sum_const_zero, zero_add]
    refine Finset.sum_congr rfl fun x _ => congrArg (fun t => ((a t : ℝ) : EReal)) (Fin.ext ?_)
    rw [hp]; dsimp only; omega

/-- The number of the head of a lane below 128, as the kernel's floor division spells it. -/
theorem floorWord : ∀ k : Fin 128, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32) = BitVec.ofNat 32 (k.val / 64) := by decide

theorem select_head (k j : Fin 128) :
    Scalar.select (IntOp.cmpi CmpIPredicate.eq (BitVec.ofNat 32 (k.val / 64)) (BitVec.ofNat 32 (j.val / 64))) (1 : EReal) 0
      = if k.val / 64 = j.val / 64 then 1 else 0 := by
  have hk : k.val / 64 = 0 ∨ k.val / 64 = 1 := by omega
  have hj : j.val / 64 = 0 ∨ j.val / 64 = 1 := by omega
  rcases hk with hk | hk <;> rcases hj with hj | hj <;> rw [hk, hj] <;> simp [Scalar.select, IntOp.cmpi]

end Cert.Own.Row

end
-- ==== Proof.Ffn.MiddleBlock.lean ====
/- What one grid point of the second half-step of the first layer writes: the group norm over each head, the recurrent
   mixer's residual, the SwiGLU half-step. The body works on two halves of 256 rows and on two halves of the hidden width. -/
module

public import proofs.«01_k».proof.Proof.Gen.MiddleIdeal.Value
public import proofs.«01_k».proof.Proof.Ffn.GroupNorm

@[expose] public section

set_option maxRecDepth 16384

noncomputable section

namespace Cert.Own.Middle

open Cert.MiddleIdeal Cert.MiddleIdeal.Gen Idealize.ShloMosaic Idealize.ShloMosaic.TcCoe Idealize.SL.Sem
open Cert.Own.Row

variable (x0 x1 x2 x3 : Vec Ideal S512x1024 .f32) (x4 : Vec Ideal S512x1024 .bf16) (x5 : Vec Ideal S2x1024 .f32)
  (x6 : Vec Ideal S1024x1024 .bf16) (x7 : Vec Ideal S1x9x1024 .f32)
  (x8 : Vec Ideal S2x1024 .f32) (x9 : Vec Ideal S1x1x1024x5632 .bf16) (x10 : Vec Ideal S1x1x2816x1024 .bf16)

/-- Row `r` of the sum of the two directions of the recurrence. -/
def rowS (r : Fin 512) : Row := fun k => x1 (ix2 r k) + x2 (ix2 r k)

/-- Row `r` after the mixer's residual. -/
def rowM (r : Fin 512) : Row :=
  mixed (fun k => x0 (ix2 r k))
    (gatedMix (rowS x1 x2 r) (fun k => x3 (ix2 r k)) (fun k => x4 (ix2 r k)) (fun k => x5 (ix2 0 k)) (fun k => x5 (ix2 1 k)))
    (fun k => x7 (ix3 0 5 k)) (fun k c => x6 (ix2 k c))

/-- Its modulated norm. -/
def rowH (r : Fin 512) : Row :=
  modded (rowM x0 x1 x2 x3 x4 x5 x6 x7 r) (fun k => x8 (ix2 0 k)) (fun k => x7 (ix3 0 6 k)) (fun k => x7 (ix3 0 7 k))

/-- The gate-and-up weights as a matrix. -/
def wgu (k : Fin 1024) (j : Fin 5632) : EReal := x9 (ix4 0 0 k j)
/-- The down weights as a matrix. -/
def wd (j : Fin 2816) (c : Fin 1024) : EReal := x10 (ix4 0 0 j c)

/-- The row after the half-step. -/
def rowOut (r : Fin 512) : Row := fun c =>
  rowM x0 x1 x2 x3 x4 x5 x6 x7 r c + Ideal.ofBits FTy.f32 1056964608#32 * x7 (ix3 0 8 c)
    * swiglu (rowH x0 x1 x2 x3 x4 x5 x6 x7 x8 r) (wgu x9) (wd x10) c

theorem pay62_apply (n : Fin 9) (c : Fin 1024) : k0_pay62 x0 x1 x2 x3 x4 x5 x6 x7 x8 x9 x10 (ix2 n c) = x7 (ix3 0 n c) := by
  pointwise [k0_pay62, k0_pay2, r0_0]

theorem pay63_apply (n : Fin 2) (c : Fin 1024) : k0_pay63 x0 x1 x2 x3 x4 x5 x6 x7 x8 x9 x10 (ix2 n c) = x8 (ix2 n c) := by
  pointwise [k0_pay63, k0_pay3, r0_1]

theorem pay64_apply (n : Fin 1) (c : Fin 1024) : k0_pay64 x0 x1 x2 x3 x4 x5 x6 x7 x8 x9 x10 (ix2 n c) = x7 (ix3 0 5 c) := by
  pointwise [k0_pay64, k0_pay4, k0_pay2, r0_0]

theorem pay66_apply (n : Fin 2) (c : Fin 1024) : k0_pay66 x0 x1 x2 x3 x4 x5 x6 x7 x8 x9 x10 (ix2 n c) = x5 (ix2 n c) := by
  pointwise [k0_pay66, k0_pay6, r0_1]

theorem pay84_apply (n : Fin 1) (c : Fin 1024) : k0_pay84 x0 x1 x2 x3 x4 x5 x6 x7 x8 x9 x10 (ix2 n c) = x7 (ix3 0 5 c) := by
  pointwise [k0_pay84, k0_pay30, pay62_apply]

theorem pay86_apply (n : Fin 2) (c : Fin 1024) : k0_pay86 x0 x1 x2 x3 x4 x5 x6 x7 x8 x9 x10 (ix2 n c) = x5 (ix2 n c) := by
  pointwise [k0_pay86, k0_pay32, r0_1]

theorem pay65_apply (r : Fin 256) (c : Fin 1024) : k0_pay65 x0 x1 x2 x3 x4 x5 x6 x7 x8 x9 x10 (ix2 r c) = rowS x1 x2 ⟨r.val, by omega⟩ c := by
  pointwise [k0_pay65, k0_pay5, r0_2, rowS]

theorem pay85_apply (r : Fin 256) (c : Fin 1024) : k0_pay85 x0 x1 x2 x3 x4 x5 x6 x7 x8 x9 x10 (ix2 r c) = rowS x1 x2 ⟨256 + r.val, by omega⟩ c := by
  pointwise [k0_pay85, k0_pay31, r0_6, rowS]

/-! ## The matrix of zeros and ones, four times -/

theorem mask1_apply (k j : Fin 128) : k0_pay69 (F := Ideal) x0 x1 x2 x3 x4 x5 x6 x7 x8 x9 x10 (ix2 k j) = if k.val / 64 = j.val / 64 then 1 else 0 := by
  pointwise [k0_pay69, k0_pay67, k0_pay7, k0_pay61, k0_pay68, k0_pay8, k0_pay9]
  rw [floorWord, floorWord, select_head]

theorem mask2_apply (k j : Fin 128) : k0_pay20 (F := Ideal) (k0_pay76 (F := Ideal) x0 x1 x2 x3 x4 x5 x6 x7 x8 x9 x10) 64#32 (k0_pay79 (F := Ideal) x0 x1 x2 x3 x4 x5 x6 x7 x8 x9 x10)
     (k0_pay80 (F := Ideal) x0 x1 x2 x3 x4 x5 x6 x7 x8 x9 x10) (Scalar.extui (Scalar.cmpi .sgt 64#32 0#32)) (Scalar.cmpi .slt 64#32 0#32) (ix2 k j)
    = if k.val / 64 = j.val / 64 then 1 else 0 := by
  pointwise [k0_pay20, k0_pay76, k0_pay79, k0_pay80, k0_pay18, k0_pay19]
  rw [floorWord, floorWord, select_head]

theorem mask3_apply (k j : Fin 128) : k0_pay89 (F := Ideal) x0 x1 x2 x3 x4 x5 x6 x7 x8 x9 x10 (ix2 k j) = if k.val / 64 = j.val / 64 then 1 else 0 := by
  pointwise [k0_pay89, k0_pay87, k0_pay33, k0_pay83, k0_pay88, k0_pay34, k0_pay35]
  rw [floorWord, floorWord, select_head]

theorem mask4_apply (k j : Fin 128) : k0_pay45 (F := Ideal) (k0_pay95 (F := Ideal) x0 x1 x2 x3 x4 x5 x6 x7 x8 x9 x10) 64#32 (k0_pay98 (F := Ideal) x0 x1 x2 x3 x4 x5 x6 x7 x8 x9 x10)
     (k0_pay99 (F := Ideal) x0 x1 x2 x3 x4 x5 x6 x7 x8 x9 x10) (Scalar.extui (Scalar.cmpi .sgt 64#32 0#32)) (Scalar.extui (Scalar.cmpi .slt 64#32 0#32)) (ix2 k j)
    = if k.val / 64 = j.val / 64 then 1 else 0 := by
  pointwise [k0_pay45, k0_pay95, k0_pay98, k0_pay99, k0_pay43, k0_pay44]
  rw [floorWord, floorWord, select_head]

/-! ## The centred row and the variance -/

theorem pay77_apply (hS : ∀ r, Tame (rowS x1 x2 r)) (r : Fin 256) (c : Fin 1024) :
    k0_pay77 x0 x1 x2 x3 x4 x5 x6 x7 x8 x9 x10 (ix2 r c) = centred (rowS x1 x2 ⟨r.val, by omega⟩) c := by
  unfold centred
  pointwise [k0_pay77, k0_pay16, pay65_apply, k0_pay10, k0_pay11, k0_pay70, k0_pay71, k0_pay72, k0_pay73, k0_pay74, k0_pay75,
    k0_pay12, k0_pay13, k0_pay14, k0_pay15]
  refine congrArg (fun t : EReal => rowS x1 x2 ⟨r.val, by omega⟩ c - t * Ideal.ofBits FTy.f32 1015021568#32) ?_
  repeat' refine dite_of (fun _ => ?_) (fun _ => ?_)
  all_goals exact headSum_of (hS _) (E := fun k j => k0_pay69 (F := Ideal) x0 x1 x2 x3 x4 x5 x6 x7 x8 x9 x10 (ix2 k j)) (mask1_apply x0 x1 x2 x3 x4 x5 x6 x7 x8 x9 x10) (fun _ => by first | rfl | exact (Nat.zero_add _).symm) (j := ⟨_, by omega⟩) (by dsimp only; omega) (by decide)

theorem pay78_apply (hS : ∀ r, Tame (rowS x1 x2 r)) (r : Fin 256) (c : Fin 1024) :
    k0_pay78 x0 x1 x2 x3 x4 x5 x6 x7 x8 x9 x10 (ix2 r c) = centred (rowS x1 x2 ⟨r.val, by omega⟩) c * centred (rowS x1 x2 ⟨r.val, by omega⟩) c := by
  have h := pay77_apply x0 x1 x2 x3 x4 x5 x6 x7 x8 x9 x10 hS r c
  unfold k0_pay77 at h
  unfold k0_pay78 k0_pay17
  exact congrArg₂ (· * ·) h h

theorem pay96_apply (hS : ∀ r, Tame (rowS x1 x2 r)) (r : Fin 256) (c : Fin 1024) :
    k0_pay96 x0 x1 x2 x3 x4 x5 x6 x7 x8 x9 x10 (ix2 r c) = centred (rowS x1 x2 ⟨256 + r.val, by omega⟩) c := by
  unfold centred
  pointwise [k0_pay96, k0_pay41, pay85_apply, k0_pay36, k0_pay37, k0_pay90, k0_pay91, k0_pay92, k0_pay93, k0_pay94,
    k0_pay38, k0_pay39, k0_pay40]
  refine congrArg (fun t : EReal => rowS x1 x2 ⟨256 + r.val, by omega⟩ c - t * Ideal.ofBits FTy.f32 1015021568#32) ?_
  repeat' refine dite_of (fun _ => ?_) (fun _ => ?_)
  all_goals exact headSum_of (hS _) (E := fun k j => k0_pay89 (F := Ideal) x0 x1 x2 x3 x4 x5 x6 x7 x8 x9 x10 (ix2 k j)) (mask3_apply x0 x1 x2 x3 x4 x5 x6 x7 x8 x9 x10) (fun _ => by first | rfl | exact (Nat.zero_add _).symm) (j := ⟨_, by omega⟩) (by dsimp only; omega) (by decide)

theorem pay97_apply (hS : ∀ r, Tame (rowS x1 x2 r)) (r : Fin 256) (c : Fin 1024) :
    k0_pay97 x0 x1 x2 x3 x4 x5 x6 x7 x8 x9 x10 (ix2 r c) = centred (rowS x1 x2 ⟨256 + r.val, by omega⟩) c * centred (rowS x1 x2 ⟨256 + r.val, by omega⟩) c := by
  have h := pay96_apply x0 x1 x2 x3 x4 x5 x6 x7 x8 x9 x10 hS r c
  unfold k0_pay96 at h
  unfold k0_pay97 k0_pay42
  exact congrArg₂ (· * ·) h h

theorem pay81_apply (hS : ∀ r, Tame (rowS x1 x2 r)) (r : Fin 256) (c : Fin 1024) :
    k0_pay81 x0 x1 x2 x3 x4 x5 x6 x7 x8 x9 x10 (ix2 r c) = variance (rowS x1 x2 ⟨r.val, by omega⟩) c + Ideal.ofBits FTy.f32 975685036#32 := by
  have h := pay78_apply x0 x1 x2 x3 x4 x5 x6 x7 x8 x9 x10 hS
  unfold variance
  pointwise [k0_pay81, k0_pay24, k0_pay21, k0_pay22, k0_pay23, h]
  refine congrArg (fun t : EReal => t * Ideal.ofBits FTy.f32 1015021568#32 + Ideal.ofBits FTy.f32 975685036#32) ?_
  have hq := (hS ⟨r.val, by omega⟩).square
  repeat' refine dite_of (fun _ => ?_) (fun _ => ?_)
  all_goals exact headSum_of hq (E := fun k j => k0_pay20 (F := Ideal) (k0_pay76 (F := Ideal) x0 x1 x2 x3 x4 x5 x6 x7 x8 x9 x10) 64#32 (k0_pay79 (F := Ideal) x0 x1 x2 x3 x4 x5 x6 x7 x8 x9 x10)
     (k0_pay80 (F := Ideal) x0 x1 x2 x3 x4 x5 x6 x7 x8 x9 x10) (Scalar.extui (Scalar.cmpi .sgt 64#32 0#32)) (Scalar.cmpi .slt 64#32 0#32) (ix2 k j)) (mask2_apply x0 x1 x2 x3 x4 x5 x6 x7 x8 x9 x10) (fun _ => by first | rfl | exact (Nat.zero_add _).symm) (j := ⟨_, by omega⟩) (by dsimp only; omega) (by decide)

theorem pay100_apply (hS : ∀ r, Tame (rowS x1 x2 r)) (r : Fin 256) (c : Fin 1024) :
    k0_pay100 x0 x1 x2 x3 x4 x5 x6 x7 x8 x9 x10 (ix2 r c) = Ideal.rsqrt (variance (rowS x1 x2 ⟨256 + r.val, by omega⟩) c + Ideal.ofBits FTy.f32 975685036#32) := by
  have h := pay97_apply x0 x1 x2 x3 x4 x5 x6 x7 x8 x9 x10 hS
  unfold variance
  pointwise [k0_pay100, k0_pay50, k0_pay46, k0_pay47, k0_pay48, k0_pay49, h]
  refine congrArg (fun t : EReal => Ideal.rsqrt (t * Ideal.ofBits FTy.f32 1015021568#32 + Ideal.ofBits FTy.f32 975685036#32)) ?_
  have hq := (hS ⟨256 + r.val, by omega⟩).square
  repeat' refine dite_of (fun _ => ?_) (fun _ => ?_)
  all_goals exact headSum_of hq (E := fun k j => k0_pay45 (F := Ideal) (k0_pay95 (F := Ideal) x0 x1 x2 x3 x4 x5 x6 x7 x8 x9 x10) 64#32 (k0_pay98 (F := Ideal) x0 x1 x2 x3 x4 x5 x6 x7 x8 x9 x10)
     (k0_pay99 (F := Ideal) x0 x1 x2 x3 x4 x5 x6 x7 x8 x9 x10) (Scalar.extui (Scalar.cmpi .sgt 64#32 0#32)) (Scalar.extui (Scalar.cmpi .slt 64#32 0#32)) (ix2 k j)) (mask4_apply x0 x1 x2 x3 x4 x5 x6 x7 x8 x9 x10) (fun _ => by first | rfl | exact (Nat.zero_add _).symm) (j := ⟨_, by omega⟩) (by dsimp only; omega) (by decide)

/-! ## The mixer's residual, its modulated norm, the half-step -/

theorem lowM_apply (hS : ∀ r, Tame (rowS x1 x2 r)) (r : Fin 256) (c : Fin 1024) :
    k0_pay25 (View.ld x0 r0_2) (k0_pay64 x0 x1 x2 x3 x4 x5 x6 x7 x8 x9 x10) (k0_pay66 x0 x1 x2 x3 x4 x5 x6 x7 x8 x9 x10) (k0_pay77 x0 x1 x2 x3 x4 x5 x6 x7 x8 x9 x10) (k0_pay81 x0 x1 x2 x3 x4 x5 x6 x7 x8 x9 x10) (View.ld x3 r0_2) (View.ld x4 r0_2) (View.ld x6 r0_3) (ix2 r c)
    = rowM x0 x1 x2 x3 x4 x5 x6 x7 ⟨r.val, by omega⟩ c := by
  have h1 := pay77_apply x0 x1 x2 x3 x4 x5 x6 x7 x8 x9 x10 hS
  have h2 := pay81_apply x0 x1 x2 x3 x4 x5 x6 x7 x8 x9 x10 hS
  pointwise [k0_pay25, pay64_apply, pay66_apply, h1, h2, r0_2, r0_3, rowM, mixed, gatedMix, grouped]

theorem highM_apply (hS : ∀ r, Tame (rowS x1 x2 r)) (r : Fin 256) (c : Fin 1024) :
    k0_pay51 (View.ld x0 r0_6) (k0_pay84 x0 x1 x2 x3 x4 x5 x6 x7 x8 x9 x10) (k0_pay86 x0 x1 x2 x3 x4 x5 x6 x7 x8 x9 x10) (k0_pay96 x0 x1 x2 x3 x4 x5 x6 x7 x8 x9 x10) (k0_pay100 x0 x1 x2 x3 x4 x5 x6 x7 x8 x9 x10) (View.ld x3 r0_6) (View.ld x4 r0_6) (View.ld x6 r0_3) (ix2 r c)
    = rowM x0 x1 x2 x3 x4 x5 x6 x7 ⟨256 + r.val, by omega⟩ c := by
  have h1 := pay96_apply x0 x1 x2 x3 x4 x5 x6 x7 x8 x9 x10 hS
  have h2 := pay100_apply x0 x1 x2 x3 x4 x5 x6 x7 x8 x9 x10 hS
  pointwise [k0_pay51, pay84_apply, pay86_apply, h1, h2, r0_6, r0_3, rowM, mixed, gatedMix, grouped]

theorem lowH_apply (hS : ∀ r, Tame (rowS x1 x2 r)) (r : Fin 256) (c : Fin 1024) :
    k0_pay82 x0 x1 x2 x3 x4 x5 x6 x7 x8 x9 x10 (ix2 r c) = rowH x0 x1 x2 x3 x4 x5 x6 x7 x8 ⟨r.val, by omega⟩ c := by
  have h := lowM_apply x0 x1 x2 x3 x4 x5 x6 x7 x8 x9 x10 hS
  simp only [rowH, modded, normed, rinv]
  pointwise [k0_pay82, k0_pay26, h, pay62_apply, pay63_apply]

theorem highH_apply (hS : ∀ r, Tame (rowS x1 x2 r)) (r : Fin 256) (c : Fin 1024) :
    k0_pay101 x0 x1 x2 x3 x4 x5 x6 x7 x8 x9 x10 (ix2 r c) = rowH x0 x1 x2 x3 x4 x5 x6 x7 x8 ⟨256 + r.val, by omega⟩ c := by
  have h := highM_apply x0 x1 x2 x3 x4 x5 x6 x7 x8 x9 x10 hS
  simp only [rowH, modded, normed, rinv]
  pointwise [k0_pay101, k0_pay52, h, pay62_apply, pay63_apply]

theorem low_apply (hS : ∀ r, Tame (rowS x1 x2 r)) (r : Fin 256) (c : Fin 1024) :
    k0_pay59 (k0_pay62 x0 x1 x2 x3 x4 x5 x6 x7 x8 x9 x10) (k0_pay25 (View.ld x0 r0_2) (k0_pay64 x0 x1 x2 x3 x4 x5 x6 x7 x8 x9 x10) (k0_pay66 x0 x1 x2 x3 x4 x5 x6 x7 x8 x9 x10) (k0_pay77 x0 x1 x2 x3 x4 x5 x6 x7 x8 x9 x10) (k0_pay81 x0 x1 x2 x3 x4 x5 x6 x7 x8 x9 x10) (View.ld x3 r0_2) (View.ld x4 r0_2) (View.ld x6 r0_3)) (k0_pay54 (k0_pay28 (k0_pay82 x0 x1 x2 x3 x4 x5 x6 x7 x8 x9 x10) (k0_pay27 (View.ld x9 r0_4)) (constant S256x1408 .f32 0x00000000#32)) (k0_pay29 (k0_pay82 x0 x1 x2 x3 x4 x5 x6 x7 x8 x9 x10) (View.ld x9 r0_5)) (View.ld x10 r0_7)) (k0_pay56 (k0_pay82 x0 x1 x2 x3 x4 x5 x6 x7 x8 x9 x10) (View.ld x9 r0_8)) (k0_pay57 (k0_pay82 x0 x1 x2 x3 x4 x5 x6 x7 x8 x9 x10) (View.ld x9 r0_9)) (View.ld x10 r0_10) (ix2 r c)
    = rowOut x0 x1 x2 x3 x4 x5 x6 x7 x8 x9 x10 ⟨r.val, by omega⟩ c := by
  have hm := lowM_apply x0 x1 x2 x3 x4 x5 x6 x7 x8 x9 x10 hS
  have hh := lowH_apply x0 x1 x2 x3 x4 x5 x6 x7 x8 x9 x10 hS
  simp only [rowOut, swiglu_halves]
  pointwise [k0_pay59, k0_pay54, k0_pay28, k0_pay27, k0_pay29, k0_pay56, k0_pay57, hm, hh, pay62_apply,
    r0_4, r0_5, r0_7, r0_8, r0_9, r0_10, act, proj, wgu, wd]
  simp only [← Nat.add_assoc, Nat.reduceAdd]

theorem high_apply (hS : ∀ r, Tame (rowS x1 x2 r)) (r : Fin 256) (c : Fin 1024) :
    k0_pay1 (k0_pay51 (View.ld x0 r0_6) (k0_pay84 x0 x1 x2 x3 x4 x5 x6 x7 x8 x9 x10) (k0_pay86 x0 x1 x2 x3 x4 x5 x6 x7 x8 x9 x10) (k0_pay96 x0 x1 x2 x3 x4 x5 x6 x7 x8 x9 x10) (k0_pay100 x0 x1 x2 x3 x4 x5 x6 x7 x8 x9 x10) (View.ld x3 r0_6) (View.ld x4 r0_6) (View.ld x6 r0_3)) (k0_pay60 (k0_pay62 x0 x1 x2 x3 x4 x5 x6 x7 x8 x9 x10) (k0_pay101 x0 x1 x2 x3 x4 x5 x6 x7 x8 x9 x10) (k0_pay55 (k0_pay101 x0 x1 x2 x3 x4 x5 x6 x7 x8 x9 x10) (k0_pay53 (k0_pay62 x0 x1 x2 x3 x4 x5 x6 x7 x8 x9 x10) (k0_pay63 x0 x1 x2 x3 x4 x5 x6 x7 x8 x9 x10) (View.ld x0 r0_6) (k0_pay84 x0 x1 x2 x3 x4 x5 x6 x7 x8 x9 x10) (k0_pay86 x0 x1 x2 x3 x4 x5 x6 x7 x8 x9 x10) (k0_pay96 x0 x1 x2 x3 x4 x5 x6 x7 x8 x9 x10) (k0_pay100 x0 x1 x2 x3 x4 x5 x6 x7 x8 x9 x10) (View.ld x3 r0_6) (View.ld x4 r0_6) (View.ld x6 r0_3) (View.ld x9 r0_4)) (View.ld x9 r0_5) (View.ld x10 r0_7)) (k0_pay58 (k0_pay101 x0 x1 x2 x3 x4 x5 x6 x7 x8 x9 x10) (View.ld x9 r0_8)) (View.ld x9 r0_9) (View.ld x10 r0_10)) (ix2 r c)
    = rowOut x0 x1 x2 x3 x4 x5 x6 x7 x8 x9 x10 ⟨256 + r.val, by omega⟩ c := by
  have hm := highM_apply x0 x1 x2 x3 x4 x5 x6 x7 x8 x9 x10 hS
  have hh := highH_apply x0 x1 x2 x3 x4 x5 x6 x7 x8 x9 x10 hS
  have hh' := hh
  unfold k0_pay101 at hh'
  simp only [rowOut, swiglu_halves]
  pointwise [k0_pay1, k0_pay60, k0_pay55, k0_pay53, k0_pay58, hm, hh, hh', pay62_apply,
    r0_4, r0_5, r0_7, r0_8, r0_9, r0_10, act, proj, wgu, wd]
  simp only [← Nat.add_assoc, Nat.reduceAdd]

/-- What a grid point leaves in its block. -/
theorem out11_apply (hS : ∀ r, Tame (rowS x1 x2 r)) (R : Fin 512) (c : Fin 1024) : out0_11 x0 x1 x2 x3 x4 x5 x6 x7 x8 x9 x10 (ix2 R c) = rowOut x0 x1 x2 x3 x4 x5 x6 x7 x8 x9 x10 R c := by
  unfold out0_11
  canon_tiles z h
  · idx_vars z
    refine (high_apply x0 x1 x2 x3 x4 x5 x6 x7 x8 x9 x10 hS _ _).trans ?_
    exact congrArg₂ _ (Fin.ext h0.symm) (Fin.ext h1.symm)
  · idx_vars z
    refine (low_apply x0 x1 x2 x3 x4 x5 x6 x7 x8 x9 x10 hS _ _).trans ?_
    exact congrArg₂ _ (Fin.ext h0.symm) (Fin.ext h1.symm)

end Cert.Own.Middle

end
-- ==== Proof.Ffn.MiddleArray.lean ====
/- What the second half-step's kernel leaves in its result array: at token `R` and channel `c` the row function of the
   argument arrays, the modulations those of the token's batch element. -/
module

public import proofs.«01_k».proof.Proof.Ffn.MiddleBlock

@[expose] public section

set_option maxRecDepth 16384

noncomputable section

namespace Cert.Own.Middle

open Cert.MiddleIdeal Cert.MiddleIdeal.Gen Idealize.ShloMosaic Idealize.ShloMosaic.TcCoe Idealize.SL.Sem
open Cert.Own.Row

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val / 16, 0, 0] ∧ win0_8.index t = ![0, 0] ∧ win0_9.index t = ![0, 1, 0, 0]
    ∧ win0_10.index t = ![0, 1, 0, 0] ∧ win0_11.index t = ![t.val, 0] :=
  (by decide +kernel : ∀ t : Fin grid0.N, _)

theorem lt_N (t : Fin cfg0.N) : t.val < 64 := lt_of_lt_of_eq t.isLt N_0

theorem blk0 (t : Fin cfg0.N) (r : Fin 512) (k : Fin 1024) : iblk m c 0 t (ix2 r k)
    = m ((c : Thread nD τ).loc main_arg0) (ix2 ⟨512 * t.val + r.val, by have := lt_N t; omega⟩ k) := by
  blk_ext! [iblk, V, idx t]

theorem blk1 (t : Fin cfg0.N) (r : Fin 512) (k : Fin 1024) : iblk m c 1 t (ix2 r k)
    = m ((c : Thread nD τ).loc main_arg1) (ix2 ⟨512 * t.val + r.val, by have := lt_N t; omega⟩ k) := by
  blk_ext! [iblk, V, idx t]

theorem blk2 (t : Fin cfg0.N) (r : Fin 512) (k : Fin 1024) : iblk m c 2 t (ix2 r k)
    = m ((c : Thread nD τ).loc main_arg2) (ix2 ⟨512 * t.val + r.val, by have := lt_N t; omega⟩ k) := by
  blk_ext! [iblk, V, idx t]

theorem blk3 (t : Fin cfg0.N) (r : Fin 512) (k : Fin 1024) : iblk m c 3 t (ix2 r k)
    = m ((c : Thread nD τ).loc main_arg3) (ix2 ⟨512 * t.val + r.val, by have := lt_N t; omega⟩ k) := by
  blk_ext! [iblk, V, idx t]

theorem blk4 (t : Fin cfg0.N) (r : Fin 512) (k : Fin 1024) : iblk m c 4 t (ix2 r k)
    = m ((c : Thread nD τ).loc main_arg4) (ix2 ⟨512 * t.val + r.val, by have := lt_N t; omega⟩ k) := by
  blk_ext! [iblk, V, idx t]

theorem blk5a (t : Fin cfg0.N) (k : Fin 1024) : iblk m c 5 t (ix2 0 k)
    = m ((c : Thread nD τ).loc main_arg10) (ix2 0 k) := by
  blk_simp [iblk, V, idx t]; entry_read; pointwise
  refine (dif_pos (by blk_simp [idx t]; decide)).trans ?_
  blk_ext [idx t]

theorem blk5b (t : Fin cfg0.N) (k : Fin 1024) : iblk m c 5 t (ix2 1 k)
    = m ((c : Thread nD τ).loc main_arg11) (ix2 0 k) := by
  blk_simp [iblk, V, idx t]; entry_read; pointwise
  refine (dif_neg (by blk_simp [idx t]; decide)).trans ?_
  blk_ext [idx t]

theorem blk6 (t : Fin cfg0.N) (k j : Fin 1024) : iblk m c 6 t (ix2 k j)
    = m ((c : Thread nD τ).loc main_arg12) (ix3 0 k j) := by
  blk_ext! [iblk, V, idx t]

theorem blk7 (t : Fin cfg0.N) (n : Fin 9) (k : Fin 1024) : iblk m c 7 t (ix3 0 n k)
    = m ((c : Thread nD τ).loc main_arg5) (ix3 ⟨t.val / 16, by have := lt_N t; omega⟩ n k) := by
  blk_ext! [iblk, V, idx t]

theorem blk8 (t : Fin cfg0.N) (k : Fin 1024) : iblk m c 8 t (ix2 0 k)
    = m ((c : Thread nD τ).loc main_arg6) (ix3 0 2 k) := by
  blk_simp [iblk, V, idx t]; entry_read; pointwise
  refine (dif_pos (by blk_simp [idx t]; decide)).trans ?_
  blk_ext [idx t]

theorem blk9 (t : Fin cfg0.N) (k : Fin 1024) (j : Fin 5632) : iblk m c 9 t (ix4 0 0 k j)
    = m ((c : Thread nD τ).loc main_arg8) (ix4 0 1 k j) := by
  blk_ext! [iblk, V, idx t]

theorem blk10 (t : Fin cfg0.N) (j : Fin 2816) (k : Fin 1024) : iblk m c 10 t (ix4 0 0 j k)
    = m ((c : Thread nD τ).loc main_arg9) (ix4 0 1 j k) := by
  blk_ext! [iblk, V, idx t]

/-- The result's value at a token and a channel. -/
def val (R : Fin 32768) : Row :=
  middleRow (fun k => m ((c : Thread nD τ).loc main_arg0) (ix2 R k))
    (fun k => m ((c : Thread nD τ).loc main_arg1) (ix2 R k)) (fun k => m ((c : Thread nD τ).loc main_arg2) (ix2 R k))
    (fun k => m ((c : Thread nD τ).loc main_arg3) (ix2 R k)) (fun k => m ((c : Thread nD τ).loc main_arg4) (ix2 R k))
    (fun n k => m ((c : Thread nD τ).loc main_arg5) (ix3 ⟨R.val / 8192, by omega⟩ n k))
    (fun k => m ((c : Thread nD τ).loc main_arg6) (ix3 0 2 k))
    (fun k j => m ((c : Thread nD τ).loc main_arg8) (ix4 0 1 k j)) (fun j k => m ((c : Thread nD τ).loc main_arg9) (ix4 0 1 j k))
    (fun k => m ((c : Thread nD τ).loc main_arg10) (ix2 0 k)) (fun k => m ((c : Thread nD τ).loc main_arg11) (ix2 0 k))
    (fun k j => m ((c : Thread nD τ).loc main_arg12) (ix3 0 k j))

/-- A grid point's row is the row function of the arguments. -/
theorem rowOut_eq (t : Fin cfg0.N) (r : Fin 512) (k : Fin 1024) :
    rowOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) r k
      = val m c ⟨512 * t.val + r.val, by have := lt_N t; omega⟩ k := by
  have hb : (512 * t.val + r.val) / 8192 = t.val / 16 := by omega
  unfold rowOut rowH rowM rowS wgu wd val middleRow half
  simp only [blk0, blk1, blk2, blk3, blk4, blk5a, blk5b, blk6, blk7, blk8, blk9, blk10, hb]

/-- The entries of the two directions of the recurrence are real numbers. -/
abbrev Finite : Prop := ∀ (R : Fin 32768) (k : Fin 1024),
  (∃ a : ℝ, m ((c : Thread nD τ).loc main_arg1) (ix2 R k) = (a : EReal)) ∧ (∃ a : ℝ, m ((c : Thread nD τ).loc main_arg2) (ix2 R k) = (a : EReal))

variable {m c} in
theorem tame (h : Finite m c) (t : Fin cfg0.N) (r : Fin 512) : Tame (rowS (iblk m c 1 t) (iblk m c 2 t) r) := by
  choose a ha using fun R k => (h R k).1
  choose b hb using fun R k => (h R k).2
  have hlt := lt_N t
  refine ⟨fun k => a ⟨512 * t.val + r.val, by omega⟩ k + b ⟨512 * t.val + r.val, by omega⟩ k, funext fun k => ?_⟩
  unfold rowS
  rw [blk1, blk2, ha, hb, EReal.coe_add]

/-- The result array after the run. -/
theorem array (h : Finite m c) : (dats m 0 c).arrAt 11 cfg0.N = fun i => val m c (i 0) (i 1) := by
  refine (dats m 0 c).arrAt_eq_of_covers 11 _ (by decide +kernel) fun t hf y => ?_
  blk_simp
  rw [after0_11]
  idx_vars y
  rw [out11_apply _ _ _ _ _ _ _ _ _ _ _ (tame h t), rowOut_eq]
  have e : (win0_11.blk t).view.emb (ix2 y0 y1) = ix2 ⟨512 * t.val + y0.val, by have := lt_N t; omega⟩ y1 := by
    blk_ext [idx t]
  rw [e]
  rfl

end Cert.Own.Middle

end
-- ==== Proof.Ffn.MiddleRef.lean ====
/- The reference of the second half-step of the first layer at a token and a channel. -/
module

public import proofs.«01_k».proof.Proof.Gen.MiddleRefIdeal.Read
public import proofs.«01_k».proof.Proof.Ffn.GroupNorm

@[expose] public section

set_option maxRecDepth 16384

noncomputable section

namespace Cert.Own.MiddleRef

open Cert.MiddleRefIdeal Cert.MiddleRefIdeal.Read Idealize.ShloMosaic Idealize.ShloMosaic.TcCoe Idealize.SL.Sem
open Cert.Own.Row

variable (x0 x1 x2 x3 : (⟨S32768x1024, .f32⟩ : BufTy).Contents (Elt Ideal)) (x4 : (⟨S32768x1024, .bf16⟩ : BufTy).Contents (Elt Ideal))
  (x5 : (⟨S8x9x1024, .f32⟩ : BufTy).Contents (Elt Ideal)) (x6 : (⟨S2x3x1024, .f32⟩ : BufTy).Contents (Elt Ideal))
  (x8 : (⟨S2x2x1024x5632, .f32⟩ : BufTy).Contents (Elt Ideal)) (x9 : (⟨S2x2x2816x1024, .f32⟩ : BufTy).Contents (Elt Ideal))
  (x10 x11 : (⟨S1x1024, .f32⟩ : BufTy).Contents (Elt Ideal)) (x12 : (⟨S1x1024x1024, .f32⟩ : BufTy).Contents (Elt Ideal))

/-- The token of batch element `b` at place `s`, and the channel of head `h` at lane `l`. -/
def tok (b : Fin 4) (s : Fin 8192) : Fin 32768 := ⟨b.val * 8192 + s.val, by omega⟩
def chan (h : Fin 16) (l : Fin 64) : Fin 1024 := ⟨h.val * 64 + l.val, by omega⟩

/-- The sum of the two directions. -/
def rowS (R : Fin 32768) : Row := fun k => x1 (ix2 R k) + x2 (ix2 R k)

theorem v31_apply (b : Fin 4) (s : Fin 8192) (h : Fin 16) (l : Fin 64) :
    val_main_v31 x1 x2 (ix4 b s h l) = rowS x1 x2 (tok b s) (chan h l) := by
  pointwise [val_main_v31, val_main_v30, val_main_v29, val_main_v28, rowS, tok, chan]

theorem v35_apply (b : Fin 4) (s : Fin 8192) (h : Fin 16) (l : Fin 64) : val_main_v35 x1 x2 (ix4 b s h 0)
    = headSum (rowS x1 x2 (tok b s)) (chan h l) * Ideal.ofBits FTy.f32 1015021568#32 := by
  have hh : (h.val * 64 + l.val) / 64 = h.val := by omega
  simp only [headSum]
  pointwise [val_main_v35, val_main_v34, val_main_cst_0, val_main_v33, val_main_v32, val_main_cst, v31_apply, chan]
  rw [div_sixtyFour]
  simp only [hh]

theorem v37_apply (b : Fin 4) (s : Fin 8192) (h : Fin 16) (l : Fin 64) :
    val_main_v37 x1 x2 (ix4 b s h l) = centred (rowS x1 x2 (tok b s)) (chan h l) := by
  unfold centred
  rw [← v35_apply]
  pointwise [val_main_v37, val_main_v36, v31_apply]

theorem v44_apply (b : Fin 4) (s : Fin 8192) (h : Fin 16) (l : Fin 64) :
    val_main_v44 x1 x2 (ix4 b s h l) = centred (rowS x1 x2 (tok b s)) (chan h l) := by
  unfold centred
  rw [← v35_apply]
  pointwise [val_main_v44, val_main_v43, v31_apply]

theorem v42_apply (b : Fin 4) (s : Fin 8192) (h : Fin 16) (l : Fin 64) : val_main_v42 x1 x2 (ix4 b s h 0)
    = variance (rowS x1 x2 (tok b s)) (chan h l) := by
  have hh : (h.val * 64 + l.val) / 64 = h.val := by omega
  simp only [variance, headSum]
  pointwise [val_main_v42, val_main_v41, val_main_cst_2, val_main_v40, val_main_v39, val_main_cst_1, val_main_v38, v37_apply, chan]
  rw [div_sixtyFour]
  simp only [hh]

theorem v59_apply (b : Fin 4) (s : Fin 8192) (h : Fin 16) (l : Fin 64) : val_main_v59 x1 x2 x10 x11 (ix4 b s h l)
    = grouped (rowS x1 x2 (tok b s)) (fun k => x10 (ix2 0 k)) (fun k => x11 (ix2 0 k)) (chan h l) := by
  unfold grouped
  rw [← v42_apply]
  pointwise [val_main_v59, val_main_v58, val_main_v57, val_main_v56, val_main_v55, val_main_v54, val_main_v53, val_main_v52,
    val_main_v51, val_main_v50, val_main_v49, val_main_v48, val_main_v47, val_main_v46, val_main_v45, val_main_cst_3, v44_apply, chan]

/-- What the output weights are applied to. -/
def rowZ (R : Fin 32768) : Row :=
  gatedMix (rowS x1 x2 R) (fun k => x3 (ix2 R k)) (fun k => x4 (ix2 R k)) (fun k => x10 (ix2 0 k)) (fun k => x11 (ix2 0 k))

theorem v66_apply (b : Fin 4) (s : Fin 8192) (k : Fin 1024) : val_main_v66 x1 x2 x3 x4 x10 x11 (ix3 b s k)
    = rowZ x1 x2 x3 x4 x10 x11 (tok b s) k := by
  have hk : chan ⟨k.val / 64, by omega⟩ ⟨k.val % 64, by omega⟩ = k := Fin.ext (by simp only [chan]; omega)
  simp only [rowZ, gatedMix]
  pointwise [val_main_v66, val_main_v65, val_main_v64, val_main_v63, val_main_v62, val_main_v61, val_main_v60, v59_apply, tok]
  simp only [hk]

/-- The row after the mixer's residual. -/
def rowX (R : Fin 32768) : Row :=
  mixed (fun k => x0 (ix2 R k)) (rowZ x1 x2 x3 x4 x10 x11 R) (fun k => x5 (ix3 ⟨R.val / 8192, by omega⟩ 5 k)) (fun k j => x12 (ix3 0 k j))

theorem v71_apply (b : Fin 4) (s : Fin 8192) (k : Fin 1024) :
    val_main_v71 x0 x1 x2 x3 x4 x5 x10 x11 x12 (ix3 b s k) = rowX x0 x1 x2 x3 x4 x5 x10 x11 x12 (tok b s) k := by
  have hb : (b.val * 8192 + s.val) / 8192 = b.val := by omega
  simp only [rowX, mixed]
  pointwise [val_main_v71, val_main_v70, val_main_v69, val_main_v68, val_main_v67, v66_apply, val_main_v27, val_main_v17, val_main_v16,
    val_main_v15, tok]
  simp only [hb]

/-- Its modulated norm. -/
def rowH (R : Fin 32768) : Row :=
  modded (rowX x0 x1 x2 x3 x4 x5 x10 x11 x12 R) (fun k => x6 (ix3 0 2 k)) (fun k => x5 (ix3 ⟨R.val / 8192, by omega⟩ 6 k))
    (fun k => x5 (ix3 ⟨R.val / 8192, by omega⟩ 7 k))

theorem v94_apply (b : Fin 4) (s : Fin 8192) (k : Fin 1024) :
    val_main_v94 x0 x1 x2 x3 x4 x5 x6 x10 x11 x12 (ix3 b s k) = rowH x0 x1 x2 x3 x4 x5 x6 x10 x11 x12 (tok b s) k := by
  have hb : (b.val * 8192 + s.val) / 8192 = b.val := by omega
  simp only [rowH, modded, normed, rinv]
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_cst_5, val_main_cst_6, val_main_cst_7, val_main_cst_8,
    val_main_v75, val_main_v74, val_main_v23, val_main_v22, val_main_v21, val_main_v20, val_main_v19, val_main_v18, v71_apply, tok]
  simp only [hb]

theorem v99_apply (b : Fin 4) (s : Fin 8192) (j : Fin 5632) : val_main_v99 x0 x1 x2 x3 x4 x5 x6 x8 x10 x11 x12 (ix3 b s j)
    = proj (rowH x0 x1 x2 x3 x4 x5 x6 x10 x11 x12 (tok b s)) (fun k j => x8 (ix4 0 1 k j)) j := by
  simp only [proj]
  pointwise [val_main_v99, v94_apply, val_main_v96, val_main_v95]

theorem v103_apply (b : Fin 4) (s : Fin 8192) (j : Fin 2816) : val_main_v103 x0 x1 x2 x3 x4 x5 x6 x8 x10 x11 x12 (ix3 b s j)
    = act (rowH x0 x1 x2 x3 x4 x5 x6 x10 x11 x12 (tok b s)) (fun k j => x8 (ix4 0 1 k j)) j := by
  simp only [act]
  pointwise [val_main_v103, val_main_v102, val_main_call0_v0, val_main_call0_v1, val_main_call0_v2, val_main_call0_v3,
    val_main_call0_v4, val_main_call0_v5, val_main_call0_cst, val_main_call0_cst_0, val_main_v101, val_main_v100, v99_apply]
  rfl

/-- The row after the half-step. -/
def rowY (R : Fin 32768) : Row := fun c =>
  rowX x0 x1 x2 x3 x4 x5 x10 x11 x12 R c + Ideal.ofBits FTy.f32 1056964608#32 * x5 (ix3 ⟨R.val / 8192, by omega⟩ 8 c)
    * swiglu (rowH x0 x1 x2 x3 x4 x5 x6 x10 x11 x12 R) (fun k j => x8 (ix4 0 1 k j)) (fun j k => x9 (ix4 0 1 j k)) c

theorem v107_apply (b : Fin 4) (s : Fin 8192) (k : Fin 1024) : val_main_v107 x0 x1 x2 x3 x4 x5 x6 x8 x9 x10 x11 x12 (ix3 b s k)
    = rowY x0 x1 x2 x3 x4 x5 x6 x8 x9 x10 x11 x12 (tok b s) k := by
  have hb : (b.val * 8192 + s.val) / 8192 = b.val := by omega
  simp only [rowY, swiglu]
  pointwise [val_main_v107, val_main_v106, val_main_v105, val_main_v104, val_main_v98, val_main_v97, v103_apply, v71_apply,
    val_main_v73, val_main_v72, val_main_cst_4, val_main_v26, val_main_v25, val_main_v24, tok]
  simp only [hb]

theorem v108_apply (R : Fin 32768) (k : Fin 1024) : val_main_v108 x0 x1 x2 x3 x4 x5 x6 x8 x9 x10 x11 x12 (ix2 R k)
    = rowY x0 x1 x2 x3 x4 x5 x6 x8 x9 x10 x11 x12 R k := by
  have hR : (⟨R.val / 8192 * 8192 + R.val % 8192, by omega⟩ : Fin 32768) = R := Fin.ext (by dsimp only; omega)
  pointwise [val_main_v108, v107_apply, tok]
  simp only [hR]

end Cert.Own.MiddleRef

end
-- ==== Proof.Ffn.MiddleClaim.lean ====
/- The middle half-step's kernel and its reference leave equal results where the recurrence's outputs are finite,
   element by element over the extended reals. -/
module

public import proofs.«01_k».proof.Defs
public import proofs.«01_k».proof.Proof.Gen.Pre_finite
public import proofs.«01_k».proof.Proof.Ffn.MiddleArray
public import proofs.«01_k».proof.Proof.Ffn.MiddleRef

@[expose] public section

set_option maxRecDepth 16384

noncomputable section

namespace Cert.Own.Middle

open Idealize.ShloMosaic Idealize.ShloMosaic.TcCoe Idealize.SL.Sem
open Cert.Own.Row

/-- An extended real whose absolute value lies below infinity is a real number. -/
theorem real_of_abs {x : EReal} (h : Ideal.cmp .olt (max x (-x)) ⊤ = 1#1) : ∃ a : ℝ, x = (a : EReal) := by
  induction x using EReal.rec with
  | bot => simp [Ideal.cmp] at h
  | coe a => exact ⟨a, rfl⟩
  | top => simp [Ideal.cmp] at h

theorem and_bits : ∀ {a b : BitVec 1}, IntOp.andi a b = 1#1 → a = 1#1 ∧ b = 1#1 := by decide

/-- The precondition says that both directions of the recurrence are finite. -/
theorem finite_of_pre {m : (ℓ : Loc Cert.MiddleIdeal.nD Cert.MiddleIdeal.τ Cert.MiddleIdeal.sig) → Buf (Elt Ideal) ℓ}
    (h : Cert.Pre_MiddleIdeal_finite m) (c : Dev Cert.MiddleIdeal.nD) : Finite m c := by
  intro R k
  have h1 := congrFun (h c) (ix2 R k)
  unfold Cert.Pre_finite.fn at h1
  pointwise at h1
  obtain ⟨ha, hb⟩ := and_bits h1
  simp only [Ideal.cmpf_def, Ideal.absf_def, Ideal.ofBits_def, infWord] at ha hb
  exact ⟨real_of_abs ha, real_of_abs hb⟩

theorem algebraic : Cert.algebraic_MiddleIdeal_MiddleRefIdeal_pre_finite := by
  intro m g m' g' hpre hagree
  refine ⟨fun c i => val m c (i 0) (i 1), ?_, ?_⟩
  · exact (θ_run Cert.MiddleIdeal.defs _ _).mono
      (fun _ h c => ⟨(h c).1.trans (array m c (finite_of_pre hpre c)), (h c).2⟩)
      (Cert.MiddleIdeal.Value.run_blocks (F := Ideal) m g)
  · refine (θ_run Cert.MiddleRefIdeal.defs _ _).mono (fun _ h c => ⟨(h c).1.trans ?_, (h c).2⟩)
      (Cert.MiddleRefIdeal.Value.run (F := Ideal) m' g')
    rw [Cert.MiddleRefIdeal.Read.val_main_v108_eq]
    obtain ⟨h0, h1, h2, h3, h4, h5, h6, h7, h8, h9, h10, h11, h12⟩ := hagree c
    rw [h0, h1, h2, h3, h4, h5, h6, h8, h9, h10, h11, h12]
    funext i
    idx_vars i
    exact Cert.Own.MiddleRef.v108_apply _ _ _ _ _ _ _ _ _ _ _ _ i0 i1

end Cert.Own.Middle

end
-- ==== Proof.HyIn.Conv.lean ====
/- The convolution of width three at one token and one column of the projection. -/
module

public import Idealize.ShloMosaic.Lib.Pipeline.ValueKit
public import Idealize.ShloMosaic.Lib.Pointwise

@[expose] public section

noncomputable section

namespace Cert.Own.HyIn

open Idealize.ShloMosaic

/-- A token's row against a column of the projection's weights. -/
def dot (h w : Fin 1024 → EReal) : EReal := ∑ k : Fin 1024, h k * w k

/-- The three taps at place `s` of a sequence of 8192: `p`, `q` and `n` are the projections of the token before, of the
    token itself and of the token after; before the first and after the last there is a zero. -/
def taps (s : ℕ) (p q n a0 a1 a2 b : EReal) : EReal :=
  (if s % 8192 = 0 then 0 else p * a0) + q * a1 + (if s % 8192 = 8191 then 0 else n * a2) + b

end Cert.Own.HyIn

end
-- ==== Proof.HyIn.Place.lean ====
/- The kernel's tests of a token's place in its sequence, in machine words. -/
module

public import proofs.«01_k».proof.Proof.Gen.HyInIdeal.Value

@[expose] public section

set_option maxRecDepth 16384

noncomputable section

namespace Cert.Own.HyIn

open Cert.HyInIdeal Cert.HyInIdeal.Gen Idealize.ShloMosaic Idealize.ShloMosaic.TcCoe Idealize.SL.Sem

set_option maxHeartbeats 2000000 in
/-- The place, in its sequence, of a row of the lower half of the block `i`, as the kernel computes it. -/
theorem low_word : ∀ (i : Fin 64) (r : Fin 256),
    Scalar.select
      (IntOp.andi
        (IntOp.xori
          (IntOp.cmpi CmpIPredicate.slt
            (IntOp.remsi ArithUnit.vector
              (IntOp.addi (Scalar.addi (Scalar.muli (BitVec.ofNat 32 i.val) 512#32) 0#32) (BitVec.ofNat 32 r.val))
              (Scalar.select (Scalar.cmpi CmpIPredicate.eq 8192#32 0#32) 1#32 8192#32))
            0#32)
          (Scalar.cmpi CmpIPredicate.slt (Scalar.select (Scalar.cmpi CmpIPredicate.eq 8192#32 0#32) 1#32 8192#32) 0#32))
        (IntOp.cmpi CmpIPredicate.ne
          (IntOp.remsi ArithUnit.vector
            (IntOp.addi (Scalar.addi (Scalar.muli (BitVec.ofNat 32 i.val) 512#32) 0#32) (BitVec.ofNat 32 r.val))
            (Scalar.select (Scalar.cmpi CmpIPredicate.eq 8192#32 0#32) 1#32 8192#32))
          0#32))
      (IntOp.addi
        (IntOp.remsi ArithUnit.vector
          (IntOp.addi (Scalar.addi (Scalar.muli (BitVec.ofNat 32 i.val) 512#32) 0#32) (BitVec.ofNat 32 r.val))
          (Scalar.select (Scalar.cmpi CmpIPredicate.eq 8192#32 0#32) 1#32 8192#32))
        (Scalar.select (Scalar.cmpi CmpIPredicate.eq 8192#32 0#32) 1#32 8192#32))
      (IntOp.remsi ArithUnit.vector
        (IntOp.addi (Scalar.addi (Scalar.muli (BitVec.ofNat 32 i.val) 512#32) 0#32) (BitVec.ofNat 32 r.val))
        (Scalar.select (Scalar.cmpi CmpIPredicate.eq 8192#32 0#32) 1#32 8192#32)) = BitVec.ofNat 32 ((512 * i.val + r.val) % 8192) := by
  decide +kernel

set_option maxHeartbeats 2000000 in
/-- The place, in its sequence, of a row of the upper half of the block `i`, as the kernel computes it. -/
theorem high_word : ∀ (i : Fin 64) (r : Fin 256),
    Scalar.select
      (IntOp.andi
        (IntOp.xori
          (IntOp.cmpi CmpIPredicate.slt
            (IntOp.remsi ArithUnit.vector
              (IntOp.addi (Scalar.addi (Scalar.muli (BitVec.ofNat 32 i.val) 512#32) 256#32) (BitVec.ofNat 32 r.val))
              (Scalar.select (Scalar.cmpi CmpIPredicate.eq 8192#32 0#32) 1#32 8192#32))
            0#32)
          (Scalar.cmpi CmpIPredicate.slt (Scalar.select (Scalar.cmpi CmpIPredicate.eq 8192#32 0#32) 1#32 8192#32) 0#32))
        (IntOp.cmpi CmpIPredicate.ne
          (IntOp.remsi ArithUnit.vector
            (IntOp.addi (Scalar.addi (Scalar.muli (BitVec.ofNat 32 i.val) 512#32) 256#32) (BitVec.ofNat 32 r.val))
            (Scalar.select (Scalar.cmpi CmpIPredicate.eq 8192#32 0#32) 1#32 8192#32))
          0#32))
      (IntOp.addi
        (IntOp.remsi ArithUnit.vector
          (IntOp.addi (Scalar.addi (Scalar.muli (BitVec.ofNat 32 i.val) 512#32) 256#32) (BitVec.ofNat 32 r.val))
          (Scalar.select (Scalar.cmpi CmpIPredicate.eq 8192#32 0#32) 1#32 8192#32))
        (Scalar.select (Scalar.cmpi CmpIPredicate.eq 8192#32 0#32) 1#32 8192#32))
      (IntOp.remsi ArithUnit.vector
        (IntOp.addi (Scalar.addi (Scalar.muli (BitVec.ofNat 32 i.val) 512#32) 256#32) (BitVec.ofNat 32 r.val))
        (Scalar.select (Scalar.cmpi CmpIPredicate.eq 8192#32 0#32) 1#32 8192#32)) = BitVec.ofNat 32 ((512 * i.val + 256 + r.val) % 8192) := by
  decide +kernel

/-- Is there a token before? -/
theorem before_word : ∀ n : Fin 8192, IntOp.cmpi CmpIPredicate.sge (BitVec.ofNat 32 n.val) 1#32 = BitVec.ofBool (n.val ≠ 0) := by
  decide +kernel

/-- Is there a token after? -/
theorem after_word : ∀ n : Fin 8192, IntOp.cmpi CmpIPredicate.slt (IntOp.addi (BitVec.ofNat 32 n.val) 1#32) 8192#32
    = BitVec.ofBool (n.val ≠ 8191) := by
  decide +kernel

end Cert.Own.HyIn

end
-- ==== Proof.HyIn.Block.lean ====
/- What one grid point of the convolution writes: a block of 512 tokens, with the eight rows before it and the eight after. -/
module

public import proofs.«01_k».proof.Proof.HyIn.Conv
public import proofs.«01_k».proof.Proof.HyIn.Place

@[expose] public section

set_option maxRecDepth 16384

noncomputable section

namespace Cert.Own.HyIn

open Cert.HyInIdeal Cert.HyInIdeal.Gen Idealize.ShloMosaic Idealize.ShloMosaic.TcCoe Idealize.SL.Sem

/-- The rows at hand, from the first of the eight before the block to the last of the eight after. -/
def ext (x0 : Vec Ideal S512x1024 .f32) (x1 x2 : Vec Ideal S8x1024 .f32) (e : ℕ) (k : Fin 1024) : EReal :=
  if h : e < 8 then x1 (ix2 ⟨e, h⟩ k) else if h : e - 8 < 512 then x0 (ix2 ⟨e - 8, h⟩ k)
    else if h : e - 520 < 8 then x2 (ix2 ⟨e - 520, h⟩ k) else 0

theorem pick_before (n : ℕ) (hn : n < 8192) (a b : EReal) :
    Scalar.select (IntOp.cmpi CmpIPredicate.sge (BitVec.ofNat 32 n) 1#32) a b = if n = 0 then b else a := by
  rw [before_word ⟨n, hn⟩]
  by_cases h : n = 0 <;> simp [Scalar.select, h]

theorem pick_after (n : ℕ) (hn : n < 8192) (a b : EReal) :
    Scalar.select (IntOp.cmpi CmpIPredicate.slt (IntOp.addi (BitVec.ofNat 32 n) 1#32) 8192#32) a b
      = if n = 8191 then b else a := by
  rw [after_word ⟨n, hn⟩]
  by_cases h : n = 8191 <;> simp [Scalar.select, h]

theorem ext_before (x0 : Vec Ideal S512x1024 .f32) (x1 x2 : Vec Ideal S8x1024 .f32) (e : ℕ) (r : Fin 8) (k : Fin 1024) (h : e = r.val) :
    ext x0 x1 x2 e k = x1 (ix2 r k) := by
  subst h
  simp only [ext, r.isLt, dif_pos]

theorem ext_block (x0 : Vec Ideal S512x1024 .f32) (x1 x2 : Vec Ideal S8x1024 .f32) (e : ℕ) (r : Fin 512) (k : Fin 1024)
    (h : e = 8 + r.val) : ext x0 x1 x2 e k = x0 (ix2 r k) := by
  have hr := r.isLt
  unfold ext
  rw [dif_neg (by omega), dif_pos (by omega), (Fin.ext (by simp only []; omega) : (⟨e - 8, by omega⟩ : Fin 512) = r)]

theorem ext_after (x0 : Vec Ideal S512x1024 .f32) (x1 x2 : Vec Ideal S8x1024 .f32) (e : ℕ) (r : Fin 8) (k : Fin 1024)
    (h : e = 520 + r.val) : ext x0 x1 x2 e k = x2 (ix2 r k) := by
  have hr := r.isLt
  unfold ext
  rw [dif_neg (by omega), dif_neg (by omega), dif_pos (by omega),
    (Fin.ext (by simp only []; omega) : (⟨e - 520, by omega⟩ : Fin 8) = r)]

variable (i : grid0.Coords) (u0 : Vec Ideal S512x1024 .f32) (u1 u2 : Vec Ideal S8x1024 .f32) (u3 : Vec Ideal S1024x3072 .bf16)
  (u4 : Vec Ideal S3x3072 .f32) (u5 : Vec Ideal S1x3072 .f32)

/-- The convolution at row `r` of the block `b` and one of the 3072 columns. -/
def rowVal (b r : ℕ) (j : Fin 3072) : EReal :=
  taps (512 * b + r) (dot (ext u0 u1 u2 (7 + r)) fun k => u3 (ix2 k j)) (dot (ext u0 u1 u2 (8 + r)) fun k => u3 (ix2 k j))
    (dot (ext u0 u1 u2 (9 + r)) fun k => u3 (ix2 k j)) (u4 (ix2 0 j)) (u4 (ix2 1 j)) (u4 (ix2 2 j)) (u5 (ix2 0 j))

theorem pay20_apply (q : Fin 272) (j : Fin 3072) : k0_pay20 i u0 u1 u2 u3 u4 u5 (ix2 q j)
    = dot (ext u0 u1 u2 q.val) fun k => u3 (ix2 k j) := by
  simp only [dot]
  pointwise [k0_pay20, k0_pay7, r0_2, r0_3, r0_4, r0_5]
  refine Finset.sum_congr rfl fun k _ => congrArg (· * _) ?_
  have hq := q.isLt
  by_cases h : q.val < 8
  · rw [dif_pos h]
    exact (ext_before u0 u1 u2 _ _ k (by first | rfl | (dsimp only; omega))).symm
  · rw [dif_neg h]
    by_cases h' : q.val - 8 < 256
    · rw [dif_pos h']
      exact (ext_block u0 u1 u2 _ _ k (by first | rfl | (dsimp only; omega))).symm
    · rw [dif_neg h']
      exact (ext_block u0 u1 u2 _ _ k (by first | rfl | (dsimp only; omega))).symm

theorem pay21_apply (q : Fin 272) (j : Fin 3072) : k0_pay21 i u0 u1 u2 u3 u4 u5 (ix2 q j)
    = dot (ext u0 u1 u2 (256 + q.val)) fun k => u3 (ix2 k j) := by
  simp only [dot]
  pointwise [k0_pay21, k0_pay8, r0_2, r0_6, r0_7, r0_5]
  refine Finset.sum_congr rfl fun k _ => congrArg (· * _) ?_
  have hq := q.isLt
  by_cases h : q.val < 8
  · rw [dif_pos h]
    exact (ext_block u0 u1 u2 _ _ k (by first | rfl | (dsimp only; omega))).symm
  · rw [dif_neg h]
    by_cases h' : q.val - 8 < 256
    · rw [dif_pos h']
      exact (ext_block u0 u1 u2 _ _ k (by first | rfl | (dsimp only; omega))).symm
    · rw [dif_neg h']
      exact (ext_after u0 u1 u2 _ _ k (by first | rfl | (dsimp only; omega))).symm

theorem pay11_apply (v11 v1 v3) (q : Fin 256) (j : Fin 3072) :
    k0_pay11 (F := Ideal) v1 v3 v11 (Scalar.select (Scalar.cmpi .eq 8192#32 0#32) 1#32 8192#32) (k0_pay22 i u0 u1 u2 u3 u4 u5)
        (k0_pay23 i u0 u1 u2 u3 u4 u5) (ix2 q j)
      = taps (512 * (i 0).val + q.val) (v11 (ix2 ⟨7 + q.val, by omega⟩ j)) (v11 (ix2 ⟨8 + q.val, by omega⟩ j))
          (v11 (ix2 ⟨9 + q.val, by omega⟩ j)) (v1 (ix2 0 j)) (v1 (ix2 1 j)) (v1 (ix2 2 j)) (v3 (ix2 0 j)) := by
  pointwise [k0_pay11, k0_pay22, k0_pay23, k0_pay9, k0_pay10]
  rw [low_word (i 0) q, pick_before _ (Nat.mod_lt _ (by norm_num)), pick_after _ (Nat.mod_lt _ (by norm_num))]
  rfl

theorem pay15_apply (q : Fin 256) : k0_pay15 (BitVec.ofNat 32 (i 0).val) (ix2 q 0)
    = BitVec.ofNat 32 ((512 * (i 0).val + 256 + q.val) % 8192) := by
  pointwise [k0_pay15]
  exact high_word (i 0) q

theorem pay1_apply (v19 v3 v1) (q : Fin 256) (j : Fin 3072) :
    k0_pay1 (F := Ideal) v1 v3 (k0_pay16 (BitVec.ofNat 32 (i 0).val) v19) (k0_pay17 (BitVec.ofNat 32 (i 0).val) v1 v19) (ix2 q j)
      = taps (512 * (i 0).val + 256 + q.val) (v19 (ix2 ⟨7 + q.val, by omega⟩ j)) (v19 (ix2 ⟨8 + q.val, by omega⟩ j))
          (v19 (ix2 ⟨9 + q.val, by omega⟩ j)) (v1 (ix2 0 j)) (v1 (ix2 1 j)) (v1 (ix2 2 j)) (v3 (ix2 0 j)) := by
  pointwise [k0_pay1, k0_pay16, k0_pay17]
  rw [pay15_apply, pick_before _ (Nat.mod_lt _ (by norm_num)), pick_after _ (Nat.mod_lt _ (by norm_num))]
  rfl

theorem pay18_apply (a : Fin 3) (j : Fin 3072) : k0_pay18 i u0 u1 u2 u3 u4 u5 (ix2 a j) = u4 (ix2 a j) := by
  pointwise [k0_pay18, k0_pay5, r0_0]

theorem pay19_apply (j : Fin 3072) : k0_pay19 i u0 u1 u2 u3 u4 u5 (ix2 0 j) = u5 (ix2 0 j) := by
  pointwise [k0_pay19, k0_pay6, r0_1]

theorem low_row (q : Fin 256) (j : Fin 3072) :
    k0_pay11 (k0_pay18 i u0 u1 u2 u3 u4 u5) (k0_pay19 i u0 u1 u2 u3 u4 u5) (k0_pay20 i u0 u1 u2 u3 u4 u5)
        (Scalar.select (Scalar.cmpi .eq 8192#32 0#32) 1#32 8192#32) (k0_pay22 i u0 u1 u2 u3 u4 u5)
        (k0_pay23 i u0 u1 u2 u3 u4 u5) (ix2 q j)
      = rowVal u0 u1 u2 u3 u4 u5 (i 0).val q.val j := by
  rw [pay11_apply]
  simp only [pay18_apply, pay19_apply, pay20_apply]
  rfl

theorem high_row (q : Fin 256) (j : Fin 3072) :
    k0_pay1 (k0_pay18 i u0 u1 u2 u3 u4 u5) (k0_pay19 i u0 u1 u2 u3 u4 u5) (k0_pay24 i u0 u1 u2 u3 u4 u5)
        (k0_pay25 i u0 u1 u2 u3 u4 u5) (ix2 q j)
      = rowVal u0 u1 u2 u3 u4 u5 (i 0).val (256 + q.val) j := by
  refine (pay1_apply i _ _ _ q j).trans ?_
  simp only [pay18_apply, pay19_apply, pay21_apply, rowVal]
  rw [show 512 * (i 0).val + 256 + q.val = 512 * (i 0).val + (256 + q.val) by omega, show 256 + (7 + q.val) = 7 + (256 + q.val) by omega,
    show 256 + (8 + q.val) = 8 + (256 + q.val) by omega, show 256 + (9 + q.val) = 9 + (256 + q.val) by omega]

theorem pay12_apply (v1 v3 v11 v26 v28 v30) (q : Fin 256) (j : Fin 1024) : k0_pay12 (F := Ideal) v1 v3 v11 v26 v28 v30 (ix2 q j)
    = k0_pay11 (F := Ideal) v1 v3 v11 v26 v28 v30 (ix2 q ⟨0 + j.val, by omega⟩) := by
  pointwise [k0_pay12]

theorem pay2_apply (v1 v3 v113 v121) (q : Fin 256) (j : Fin 1024) : k0_pay2 (F := Ideal) v1 v3 v113 v121 (ix2 q j)
    = k0_pay1 (F := Ideal) v1 v3 v113 v121 (ix2 q ⟨0 + j.val, by omega⟩) := by
  pointwise [k0_pay2]

theorem pay13_apply (v1 v3 v11 v26 v28 v30) (q : Fin 256) (j : Fin 1024) : k0_pay13 (F := Ideal) v1 v3 v11 v26 v28 v30 (ix2 q j)
    = k0_pay11 (F := Ideal) v1 v3 v11 v26 v28 v30 (ix2 q ⟨1024 + j.val, by omega⟩) := by
  pointwise [k0_pay13]

theorem pay3_apply (v1 v3 v113 v121) (q : Fin 256) (j : Fin 1024) : k0_pay3 (F := Ideal) v1 v3 v113 v121 (ix2 q j)
    = k0_pay1 (F := Ideal) v1 v3 v113 v121 (ix2 q ⟨1024 + j.val, by omega⟩) := by
  pointwise [k0_pay3]

theorem pay14_apply (v1 v3 v11 v26 v28 v30) (q : Fin 256) (j : Fin 1024) : k0_pay14 (F := Ideal) v1 v3 v11 v26 v28 v30 (ix2 q j)
    = k0_pay11 (F := Ideal) v1 v3 v11 v26 v28 v30 (ix2 q ⟨2048 + j.val, by omega⟩) := by
  pointwise [k0_pay14]

theorem pay4_apply (v1 v3 v113 v121) (q : Fin 256) (j : Fin 1024) : k0_pay4 (F := Ideal) v1 v3 v113 v121 (ix2 q j)
    = k0_pay1 (F := Ideal) v1 v3 v113 v121 (ix2 q ⟨2048 + j.val, by omega⟩) := by
  pointwise [k0_pay4]

/-- What a grid point leaves in its block of the first result. -/
theorem out6_apply (r : Fin 512) (j : Fin 1024) : out0_6 i u0 u1 u2 u3 u4 u5 (ix2 r j)
    = rowVal u0 u1 u2 u3 u4 u5 (i 0).val r.val ⟨0 + j.val, by omega⟩ := by
  unfold out0_6
  canon_tiles x h
  · idx_vars x
    refine (pay2_apply _ _ _ _ _ _).trans ((high_row i u0 u1 u2 u3 u4 u5 _ _).trans ?_)
    rw [h0, (Fin.ext h1 : j = x1)]
  · idx_vars x
    refine (pay12_apply _ _ _ _ _ _ _ _).trans ((low_row i u0 u1 u2 u3 u4 u5 _ _).trans ?_)
    rw [h0, (Fin.ext h1 : j = x1)]

/-- What a grid point leaves in its block of the second result. -/
theorem out7_apply (r : Fin 512) (j : Fin 1024) : out0_7 i u0 u1 u2 u3 u4 u5 (ix2 r j)
    = rowVal u0 u1 u2 u3 u4 u5 (i 0).val r.val ⟨1024 + j.val, by omega⟩ := by
  unfold out0_7
  canon_tiles x h
  · idx_vars x
    refine (pay3_apply _ _ _ _ _ _).trans ((high_row i u0 u1 u2 u3 u4 u5 _ _).trans ?_)
    rw [h0, (Fin.ext h1 : j = x1)]
  · idx_vars x
    refine (pay13_apply _ _ _ _ _ _ _ _).trans ((low_row i u0 u1 u2 u3 u4 u5 _ _).trans ?_)
    rw [h0, (Fin.ext h1 : j = x1)]

/-- What a grid point leaves in its block of the third result. -/
theorem out8_apply (r : Fin 512) (j : Fin 1024) : out0_8 i u0 u1 u2 u3 u4 u5 (ix2 r j)
    = rowVal u0 u1 u2 u3 u4 u5 (i 0).val r.val ⟨2048 + j.val, by omega⟩ := by
  unfold out0_8
  canon_tiles x h
  · idx_vars x
    refine (pay4_apply _ _ _ _ _ _).trans ((high_row i u0 u1 u2 u3 u4 u5 _ _).trans ?_)
    rw [h0, (Fin.ext h1 : j = x1)]
  · idx_vars x
    refine (pay14_apply _ _ _ _ _ _ _ _).trans ((low_row i u0 u1 u2 u3 u4 u5 _ _).trans ?_)
    rw [h0, (Fin.ext h1 : j = x1)]

end Cert.Own.HyIn

end
-- ==== Proof.HyIn.Array.lean ====
/- What the convolution's kernel leaves in its three results: at a token and a column the three taps of the projected rows. -/
module

public import proofs.«01_k».proof.Proof.HyIn.Block

@[expose] public section

set_option maxRecDepth 16384

noncomputable section

namespace Cert.Own.HyIn

open Cert.HyInIdeal Cert.HyInIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![64 * t.val - 1, 0]
    ∧ win0_2.index t = ![min (64 * (t.val + 1)) 4095, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] :=
  (by decide +kernel : ∀ t : Fin grid0.N, _)

theorem coord : ∀ t : Fin cfg0.N, (grid0.coords t 0).val = t.val :=
  (by decide +kernel : ∀ t : Fin grid0.N, (grid0.coords t 0).val = t.val)

theorem lt_N (t : Fin cfg0.N) : t.val < 64 := lt_of_lt_of_eq t.isLt N_0

theorem col_lt (o : ℕ) (ho : o ≤ 2048) (j : Fin 1024) : o + j.val < 3072 := by omega

/-- The row of token `n`, or zeros past the last. -/
def row (h : Fin 32768 → Fin 1024 → EReal) (n : ℕ) (k : Fin 1024) : EReal := if hn : n < 32768 then h ⟨n, hn⟩ k else 0

/-- The convolution at a token and a column, of the rows, the projection, the three taps and the bias. -/
def conv (h : Fin 32768 → Fin 1024 → EReal) (w : Fin 1024 → Fin 3072 → EReal) (a : Fin 3 → Fin 3072 → EReal) (b : Fin 3072 → EReal)
    (s : ℕ) (j : Fin 3072) : EReal :=
  taps s (dot (row h (s - 1)) fun k => w k j) (dot (row h s) fun k => w k j) (dot (row h (s + 1)) fun k => w k j)
    (a 0 j) (a 1 j) (a 2 j) (b j)

/-- The convolution at a token and a column. -/
def val (s : Fin 32768) (j : Fin 3072) : EReal :=
  conv (fun n k => m ((c : Thread nD τ).loc main_arg0) (ix2 n k)) (fun k j => m ((c : Thread nD τ).loc main_arg1) (ix3 0 k j))
    (fun a j => m ((c : Thread nD τ).loc main_arg2) (ix3 0 a j)) (fun j => m ((c : Thread nD τ).loc main_arg3) (ix2 0 j)) s.val j

/-- One of the three parts of the columns, those from `o`. -/
def part (o : ℕ) (ho : o ≤ 2048) (s : Fin 32768) (j : Fin 1024) : EReal := val m c s ⟨o + j.val, col_lt o ho j⟩

theorem blk0 (t : Fin cfg0.N) (r : Fin 512) (k : Fin 1024) : iblk m c 0 t (ix2 r k)
    = m ((c : Thread nD τ).loc main_arg0) (ix2 ⟨512 * t.val + r.val, by have := lt_N t; omega⟩ k) := by
  blk_ext! [iblk, V, idx t]

theorem blk1 (t : Fin cfg0.N) (r : Fin 8) (k : Fin 1024) : iblk m c 1 t (ix2 r k)
    = m ((c : Thread nD τ).loc main_arg0) (ix2 ⟨8 * (64 * t.val - 1) + r.val, by have := lt_N t; omega⟩ k) := by
  blk_ext! [iblk, V, idx t]

theorem blk2 (t : Fin cfg0.N) (r : Fin 8) (k : Fin 1024) : iblk m c 2 t (ix2 r k)
    = m ((c : Thread nD τ).loc main_arg0) (ix2 ⟨8 * min (64 * (t.val + 1)) 4095 + r.val, by have := lt_N t; omega⟩ k) := by
  blk_ext! [iblk, V, idx t]

theorem blk3 (t : Fin cfg0.N) (k : Fin 1024) (j : Fin 3072) : iblk m c 3 t (ix2 k j)
    = m ((c : Thread nD τ).loc main_arg1) (ix3 0 k j) := by
  blk_ext! [iblk, V, idx t]

theorem blk4 (t : Fin cfg0.N) (a : Fin 3) (j : Fin 3072) : iblk m c 4 t (ix2 a j)
    = m ((c : Thread nD τ).loc main_arg2) (ix3 0 a j) := by
  blk_ext! [iblk, V, idx t]

theorem blk5 (t : Fin cfg0.N) (j : Fin 3072) : iblk m c 5 t (ix2 0 j)
    = m ((c : Thread nD τ).loc main_arg3) (ix2 0 j) := by
  blk_ext! [iblk, V, idx t]

/-- Away from the two ends of the whole array, the rows at hand are the tokens' rows. -/
theorem ext_eq (t : Fin cfg0.N) (e n : ℕ) (he : e < 528) (hn : n + 8 = 512 * t.val + e) (hl : n < 32768) :
    ext (iblk m c 0 t) (iblk m c 1 t) (iblk m c 2 t) e = row (fun n k => m ((c : Thread nD τ).loc main_arg0) (ix2 n k)) n := by
  have ht := lt_N t
  funext k
  unfold row
  rw [dif_pos hl]
  by_cases h : e < 8
  · refine (ext_before _ _ _ e ⟨e, h⟩ k rfl).trans ((blk1 m c t _ k).trans ?_)
    rw [(Fin.ext (by dsimp only; omega) : (⟨8 * (64 * t.val - 1) + e, by omega⟩ : Fin 32768) = ⟨n, hl⟩)]
  · by_cases h' : e < 520
    · refine (ext_block _ _ _ e ⟨e - 8, by omega⟩ k (by dsimp only; omega)).trans ((blk0 m c t _ k).trans ?_)
      rw [(Fin.ext (by dsimp only; omega) : (⟨512 * t.val + (e - 8), by omega⟩ : Fin 32768) = ⟨n, hl⟩)]
    · refine (ext_after _ _ _ e ⟨e - 520, by omega⟩ k (by dsimp only; omega)).trans ((blk2 m c t _ k).trans ?_)
      rw [(Fin.ext (by dsimp only; omega) : (⟨8 * min (64 * (t.val + 1)) 4095 + (e - 520), by omega⟩ : Fin 32768) = ⟨n, hl⟩)]

theorem taps_congr {s : ℕ} {p p' q q' n n' : EReal} (a0 a1 a2 b : EReal) (hp : s % 8192 ≠ 0 → p = p') (hq : q = q')
    (hn : s % 8192 ≠ 8191 → n = n') : taps s p q n a0 a1 a2 b = taps s p' q' n' a0 a1 a2 b := by
  subst hq
  unfold taps
  congr 2
  · congr 1
    split_ifs with h
    · rfl
    · rw [hp h]
  · split_ifs with h
    · rfl
    · rw [hn h]

theorem row_eq (t : Fin cfg0.N) (r : Fin 512) (j : Fin 3072) :
    rowVal (iblk m c 0 t) (iblk m c 1 t) (iblk m c 2 t) (iblk m c 3 t) (iblk m c 4 t) (iblk m c 5 t) (grid0.coords t 0).val r.val j
      = val m c ⟨512 * t.val + r.val, by have := lt_N t; omega⟩ j := by
  have ht := lt_N t
  have hr := r.isLt
  unfold rowVal val conv
  rw [coord]
  simp only [blk3, blk4, blk5]
  refine taps_congr _ _ _ _ (fun h => ?_) ?_ fun h => ?_
  · rw [ext_eq m c t (7 + r.val) (512 * t.val + r.val - 1) (by omega) (by omega) (by omega)]
  · rw [ext_eq m c t (8 + r.val) (512 * t.val + r.val) (by omega) (by omega) (by omega)]
  · rw [ext_eq m c t (9 + r.val) (512 * t.val + r.val + 1) (by omega) (by omega) (by omega)]

/-- The first result array after the run. -/
theorem array6 : (dats m 0 c).arrAt 6 cfg0.N = fun i => part m c 0 (by norm_num) (i 0) (i 1) := by
  refine (dats m 0 c).arrAt_eq_of_covers 6 _ (by decide +kernel) fun t hf y => ?_
  blk_simp
  rw [after0_6]
  idx_vars y
  rw [out6_apply, row_eq]
  have e : (win0_6.blk t).view.emb (ix2 y0 y1) = ix2 ⟨512 * t.val + y0.val, by have := lt_N t; omega⟩ y1 := by
    blk_ext [idx t]
  rw [e]
  rfl

/-- The second result array after the run. -/
theorem array7 : (dats m 0 c).arrAt 7 cfg0.N = fun i => part m c 1024 (by norm_num) (i 0) (i 1) := by
  refine (dats m 0 c).arrAt_eq_of_covers 7 _ (by decide +kernel) fun t hf y => ?_
  blk_simp
  rw [after0_7]
  idx_vars y
  rw [out7_apply, row_eq]
  have e : (win0_7.blk t).view.emb (ix2 y0 y1) = ix2 ⟨512 * t.val + y0.val, by have := lt_N t; omega⟩ y1 := by
    blk_ext [idx t]
  rw [e]
  rfl

/-- The third result array after the run. -/
theorem array8 : (dats m 0 c).arrAt 8 cfg0.N = fun i => part m c 2048 (by norm_num) (i 0) (i 1) := by
  refine (dats m 0 c).arrAt_eq_of_covers 8 _ (by decide +kernel) fun t hf y => ?_
  blk_simp
  rw [after0_8]
  idx_vars y
  rw [out8_apply, row_eq]
  have e : (win0_8.blk t).view.emb (ix2 y0 y1) = ix2 ⟨512 * t.val + y0.val, by have := lt_N t; omega⟩ y1 := by
    blk_ext [idx t]
  rw [e]
  rfl

end Cert.Own.HyIn

end
-- ==== Proof.HyIn.Ref.lean ====
/- The reference of the convolution at a token and a column. -/
module

public import proofs.«01_k».proof.Proof.Gen.HyInRefIdeal.Read
public import proofs.«01_k».proof.Proof.HyIn.Array

@[expose] public section

set_option maxRecDepth 16384

noncomputable section

namespace Cert.Own.HyInRef

open Cert.HyInRefIdeal Cert.HyInRefIdeal.Read Idealize.ShloMosaic Idealize.ShloMosaic.TcCoe Idealize.SL.Sem
open Cert.Own.HyIn (dot taps row conv)

variable (x0 : (⟨S32768x1024, .f32⟩ : BufTy).Contents (Elt Ideal)) (x1 : (⟨S1x1024x3072, .f32⟩ : BufTy).Contents (Elt Ideal))
  (x2 : (⟨S1x3x3072, .f32⟩ : BufTy).Contents (Elt Ideal)) (x3 : (⟨S1x3072, .f32⟩ : BufTy).Contents (Elt Ideal))

theorem v2_apply (b : Fin 4) (p : Fin 8192) (j : Fin 3072) : val_main_v2 x0 x1 (ix3 b p j)
    = dot (row (fun n k => x0 (ix2 n k)) (8192 * b.val + p.val)) (fun k => x1 (ix3 0 k j)) := by
  simp only [dot]
  pointwise [val_main_v2, val_main_v1, val_main_v0]
  refine Finset.sum_congr rfl fun k _ => congrArg (· * _) ?_
  unfold row
  rw [dif_pos (by omega)]
  congr 2
  apply Fin.ext
  dsimp only
  omega

theorem pad_zero : (FloatOps.sitofp (F := Ideal) FTy.f32 0#32 : EReal) = 0 := by
  simp [FloatOps.sitofp]

/-- The projection with a zero before the first token and after the last of each sequence. -/
theorem v5_apply (b : Fin 4) (p : Fin 8194) (j : Fin 3072) : val_main_v5 x0 x1 (ix3 b p j)
    = if 1 ≤ p.val ∧ p.val - 1 < 8192 then
        dot (row (fun n k => x0 (ix2 n k)) (8192 * b.val + (p.val - 1))) (fun k => x1 (ix3 0 k j)) else (0 : EReal) := by
  pointwise [val_main_v5, val_main_call0_v0, val_main_c]
  by_cases h : 1 ≤ p.val ∧ p.val - 1 < 8192
  · rw [dif_pos h, if_pos h, v2_apply]
  · rw [dif_neg h, if_neg h, pad_zero]

theorem v28_apply (b : Fin 4) (p : Fin 8192) (j : Fin 3072) : val_main_v28 x0 x1 x2 x3 (ix3 b p j)
    = conv (fun n k => x0 (ix2 n k)) (fun k j => x1 (ix3 0 k j)) (fun a j => x2 (ix3 0 a j)) (fun j => x3 (ix2 0 j))
        (8192 * b.val + p.val) j := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v4, val_main_v3]
  have hp := p.isLt
  unfold conv taps
  rw [v5_apply, v5_apply, v5_apply]
  refine congrArg (· + x3 (ix2 0 j)) (congrArg₂ (· + ·) (congrArg₂ (· + ·) ?_ ?_) ?_)
  · by_cases h : p.val = 0
    · rw [if_neg (by dsimp only; omega), if_pos (by omega), zero_mul]
    · rw [if_pos (by dsimp only; omega), if_neg (by omega), (by omega : 8192 * b.val + (p.val - 1) = 8192 * b.val + p.val - 1)]
  · rw [if_pos (by dsimp only; omega), (by omega : 8192 * b.val + (1 + p.val - 1) = 8192 * b.val + p.val)]
  · by_cases h : p.val = 8191
    · rw [if_neg (by dsimp only; omega), if_pos (by omega), zero_mul]
    · rw [if_pos (by dsimp only; omega), if_neg (by omega), (by omega : 8192 * b.val + (2 + p.val - 1) = 8192 * b.val + p.val + 1)]

theorem v32_apply (s : Fin 32768) (j : Fin 1024) : val_main_v32 x0 x1 x2 x3 (ix2 s j)
    = conv (fun n k => x0 (ix2 n k)) (fun k j => x1 (ix3 0 k j)) (fun a j => x2 (ix3 0 a j)) (fun j => x3 (ix2 0 j)) s.val
        ⟨0 + j.val, by omega⟩ := by
  have hs := s.isLt
  have e : val_main_v32 x0 x1 x2 x3 (ix2 s j)
      = val_main_v28 x0 x1 x2 x3 (ix3 ⟨s.val / 8192, by omega⟩ ⟨s.val % 8192, by omega⟩ ⟨0 + j.val, by omega⟩) := by
    pointwise [val_main_v32, val_main_v29]
  rw [e, v28_apply]
  congr 1
  dsimp only
  omega

theorem v33_apply (s : Fin 32768) (j : Fin 1024) : val_main_v33 x0 x1 x2 x3 (ix2 s j)
    = conv (fun n k => x0 (ix2 n k)) (fun k j => x1 (ix3 0 k j)) (fun a j => x2 (ix3 0 a j)) (fun j => x3 (ix2 0 j)) s.val
        ⟨1024 + j.val, by omega⟩ := by
  have hs := s.isLt
  have e : val_main_v33 x0 x1 x2 x3 (ix2 s j)
      = val_main_v28 x0 x1 x2 x3 (ix3 ⟨s.val / 8192, by omega⟩ ⟨s.val % 8192, by omega⟩ ⟨1024 + j.val, by omega⟩) := by
    pointwise [val_main_v33, val_main_v30]
  rw [e, v28_apply]
  congr 1
  dsimp only
  omega

theorem v34_apply (s : Fin 32768) (j : Fin 1024) : val_main_v34 x0 x1 x2 x3 (ix2 s j)
    = conv (fun n k => x0 (ix2 n k)) (fun k j => x1 (ix3 0 k j)) (fun a j => x2 (ix3 0 a j)) (fun j => x3 (ix2 0 j)) s.val
        ⟨2048 + j.val, by omega⟩ := by
  have hs := s.isLt
  have e : val_main_v34 x0 x1 x2 x3 (ix2 s j)
      = val_main_v28 x0 x1 x2 x3 (ix3 ⟨s.val / 8192, by omega⟩ ⟨s.val % 8192, by omega⟩ ⟨2048 + j.val, by omega⟩) := by
    pointwise [val_main_v34, val_main_v31]
  rw [e, v28_apply]
  congr 1
  dsimp only
  omega

end Cert.Own.HyInRef

end
-- ==== Proof.HyIn.Claim.lean ====
/- The convolution's kernel and its reference leave equal results, element by element over the extended reals. -/
module

public import proofs.«01_k».proof.Defs
public import proofs.«01_k».proof.Proof.HyIn.Array
public import proofs.«01_k».proof.Proof.HyIn.Ref

@[expose] public section

set_option maxRecDepth 16384

noncomputable section

namespace Cert.Own.HyIn

open Idealize.ShloMosaic Idealize.ShloMosaic.TcCoe Idealize.SL.Sem

theorem algebraic : Cert.algebraic_HyInIdeal_HyInRefIdeal := by
  intro m g m' g' _ hagree
  refine ⟨fun c i => part m c 0 (by norm_num) (i 0) (i 1), fun c i => part m c 1024 (by norm_num) (i 0) (i 1),
    fun c i => part m c 2048 (by norm_num) (i 0) (i 1), ?_, ?_⟩
  · exact (θ_run Cert.HyInIdeal.defs _ _).mono (fun _ h c => ⟨(h c).1.trans (array6 m c), (h c).2.1.trans (array7 m c),
      (h c).2.2.1.trans (array8 m c), (h c).2.2.2⟩) (Cert.HyInIdeal.Value.run_blocks (F := Ideal) m g)
  · refine (θ_run Cert.HyInRefIdeal.defs _ _).mono (fun _ h c => ⟨(h c).1.trans ?_, (h c).2.1.trans ?_, (h c).2.2.1.trans ?_, (h c).2.2.2⟩)
      (Cert.HyInRefIdeal.Value.run (F := Ideal) m' g')
    · rw [Cert.HyInRefIdeal.Read.val_main_v32_eq]
      obtain ⟨h0, h1, h2, h3⟩ := hagree c
      rw [h0, h1, h2, h3]
      funext i
      idx_vars i
      exact Cert.Own.HyInRef.v32_apply _ _ _ _ i0 i1
    · rw [Cert.HyInRefIdeal.Read.val_main_v33_eq]
      obtain ⟨h0, h1, h2, h3⟩ := hagree c
      rw [h0, h1, h2, h3]
      funext i
      idx_vars i
      exact Cert.Own.HyInRef.v33_apply _ _ _ _ i0 i1
    · rw [Cert.HyInRefIdeal.Read.val_main_v34_eq]
      obtain ⟨h0, h1, h2, h3⟩ := hagree c
      rw [h0, h1, h2, h3]
      funext i
      idx_vars i
      exact Cert.Own.HyInRef.v34_apply _ _ _ _ i0 i1

end Cert.Own.HyIn

end
-- ==== Proof.Mod.Affine.lean ====
/- One entry of the modulation: an affine map of a gated row. -/
module

public import Idealize.ShloMosaic.Lib.Pipeline.ValueKit
public import Idealize.ShloMosaic.Lib.Pointwise

@[expose] public section

noncomputable section

namespace Cert.Own.Mod

open Idealize.ShloMosaic

/-- The row gated by its own logistic, times a column, plus that column's bias. -/
def affine (row w : Fin 1024 → EReal) (b : EReal) : EReal :=
  (∑ k : Fin 1024, row k * Ideal.logistic (row k) * w k) + b

/-- The eight rows: four of the batch, one of the context, three of zeros. -/
def rows (c : Fin 4 → Fin 1024 → EReal) (ctx : Fin 1024 → EReal) (r : Fin 8) (k : Fin 1024) : EReal :=
  if h : r.val < 4 then c ⟨r.val, h⟩ k else if _h : r.val - 4 < 1 then ctx k else 0

end Cert.Own.Mod

end
-- ==== Proof.Mod.Block.lean ====
/- What one grid point of the modulation writes: a block of 1152 of the columns, all eight rows. -/
module

public import proofs.«01_k».proof.Proof.Gen.ModIdeal.Value
public import proofs.«01_k».proof.Proof.Mod.Affine

@[expose] public section

set_option maxRecDepth 16384

noncomputable section

namespace Cert.Own.Mod

open Cert.ModIdeal Cert.ModIdeal.Gen Idealize.ShloMosaic Idealize.ShloMosaic.TcCoe Idealize.SL.Sem

variable (u0 : Vec Ideal S8x1024 .f32) (u1 : Vec Ideal S1x1024x1152 .f32) (u2 : Vec Ideal S1x1x1152 .f32)

theorem pay1_apply (r : Fin 8) (j : Fin 1152) : k0_pay1 (View.ld u0 r0_0) (View.ld u1 r0_1) (View.ld u2 r0_2) (ix2 r j)
    = affine (fun k => u0 (ix2 r k)) (fun k => u1 (ix3 0 k j)) (u2 (ix3 0 0 j)) := by
  simp only [affine]
  pointwise [k0_pay1, r0_0, r0_1, r0_2]

/-- What a grid point leaves in its block of the result. -/
theorem out3_apply (r : Fin 8) (j : Fin 1152) : out0_3 u0 u1 u2 (ix2 r j)
    = affine (fun k => u0 (ix2 r k)) (fun k => u1 (ix3 0 k j)) (u2 (ix3 0 0 j)) := by
  unfold out0_3
  canon_tiles x h
  idx_vars x
  refine (pay1_apply _ _ _ _ _).trans ?_
  rw [(Fin.ext h0 : r = x0), (Fin.ext h1 : j = x1)]

end Cert.Own.Mod

end
-- ==== Proof.Mod.Array.lean ====
/- What the modulation's kernel leaves in its result: at row `r` and column `j` an affine map of the arguments. -/
module

public import proofs.«01_k».proof.Proof.Mod.Block

@[expose] public section

set_option maxRecDepth 16384

noncomputable section

namespace Cert.Own.Mod

open Cert.ModIdeal Cert.ModIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0] ∧ win0_1.index t = ![0, 0, t.val] ∧ win0_2.index t = ![0, 0, t.val]
    ∧ win0_3.index t = ![0, t.val] :=
  (by decide +kernel : ∀ t : Fin grid0.N, _)

theorem lt_N (t : Fin cfg0.N) : t.val < 8 := lt_of_lt_of_eq t.isLt N_0

/-- Three groups of rows one below the other. -/
def stack3 (a : Vec Ideal S4x1024 .f32) (b : Vec Ideal S1x1024 .f32) (z : Vec Ideal S3x1024 .f32) : Vec Ideal S8x1024 .f32 :=
  concatenate S8x1024 0 [⟨S4x1024, a⟩, ⟨S1x1024, b⟩, ⟨S3x1024, z⟩] concatenates_S4x1024_S1x1024_S3x1024_S8x1024_d0

theorem stack3_eq {a a' : Vec Ideal S4x1024 .f32} {b b' : Vec Ideal S1x1024 .f32} {z z' : Vec Ideal S3x1024 .f32} (ha : a = a') (hb : b = b')
    (hz : z = z') : concatenate S8x1024 0 [⟨S4x1024, a⟩, ⟨S1x1024, b⟩, ⟨S3x1024, z⟩] concatenates_S4x1024_S1x1024_S3x1024_S8x1024_d0
      = stack3 a' b' z' := by
  rw [ha, hb, hz]; rfl

/-- The rows of zeros. -/
def zeros : Vec Ideal S3x1024 .f32 := broadcastInDim S3x1024 ![] bcast_S_S3x1024 (constant (F := Ideal) S_ .f32 0x00000000#32)

/-- The kernel's rows: the batch's, the context's and zeros. -/
theorem rows_entry : V m c main_v2 = stack3 (m ((c : Thread nD τ).loc main_arg0))
    (broadcastInDim S1x1024 ![1] bcast_S1024_S1x1024_1 (m ((c : Thread nD τ).loc main_arg1) : Vec Ideal S1024 .f32)) zeros := by
  dsimp only [V, hostOps0, List.flatten_cons, List.flatten_nil, List.append_nil, List.cons_append, List.nil_append]
  simp only [StableHlo.after_cons, StableHlo.after_nil]
  rw [StableHlo.reshape_result_ne, StableHlo.nary_result]
  case h => decide
  refine stack3_eq ?_ ?_ ?_
  · show HloOp.result _ _ (Proc.tc.devRef main_arg0) = _
    rw [StableHlo.unary_result_ne, StableHlo.nullary_result_ne, StableHlo.unary_result_ne] <;> first | rfl | decide
  · show HloOp.result _ _ (Proc.tc.devRef main_v0) = _
    rw [StableHlo.unary_result_ne, StableHlo.nullary_result_ne, StableHlo.unary_result] <;> first | rfl | decide
  · show HloOp.result _ _ (Proc.tc.devRef main_v1) = _
    rw [StableHlo.unary_result, StableHlo.nullary_result]
    rfl

theorem stack_apply (a : Vec Ideal S4x1024 .f32) (b : Vec Ideal S1024 .f32) (r : Fin 8) (k : Fin 1024) :
    stack3 a (broadcastInDim S1x1024 ![1] bcast_S1024_S1x1024_1 b) zeros (ix2 r k)
      = rows (fun r k => a (ix2 r k)) (fun k => b (ix1 k)) r k := by
  unfold rows
  pointwise [stack3, zeros]

theorem blk0 (t : Fin cfg0.N) (r : Fin 8) (k : Fin 1024) : iblk m c 0 t (ix2 r k)
    = rows (fun r k => m ((c : Thread nD τ).loc main_arg0) (ix2 r k)) (fun k => m ((c : Thread nD τ).loc main_arg1) (ix1 k)) r k := by
  refine Eq.trans ?_ (stack_apply _ _ r k)
  rw [← rows_entry]
  blk_simp [iblk, idx t]
  have e : (win0_0.blk t).view.emb (ix2 r k) = ix2 r k := by
    blk_ext [idx t]
  rw [e]

theorem blk1 (t : Fin cfg0.N) (k : Fin 1024) (j : Fin 1152) : iblk m c 1 t (ix3 0 k j)
    = m ((c : Thread nD τ).loc main_arg2) (ix3 0 k ⟨1152 * t.val + j.val, by have := lt_N t; omega⟩) := by
  blk_ext! [iblk, V, idx t]

theorem blk2 (t : Fin cfg0.N) (j : Fin 1152) : iblk m c 2 t (ix3 0 0 j)
    = m ((c : Thread nD τ).loc main_arg3) (ix2 0 ⟨1152 * t.val + j.val, by have := lt_N t; omega⟩) := by
  blk_ext! [iblk, V, idx t]

/-- The result at a row and a column. -/
def val (r : Fin 8) (j : Fin 9216) : EReal :=
  affine (fun k => rows (fun r k => m ((c : Thread nD τ).loc main_arg0) (ix2 r k))
      (fun k => m ((c : Thread nD τ).loc main_arg1) (ix1 k)) r k)
    (fun k => m ((c : Thread nD τ).loc main_arg2) (ix3 0 k j)) (m ((c : Thread nD τ).loc main_arg3) (ix2 0 j))

/-- The result array after the run. -/
theorem array3 : (dats m 0 c).arrAt 3 cfg0.N = fun i => val m c (i 0) (i 1) := by
  refine (dats m 0 c).arrAt_eq_of_covers 3 _ (by decide +kernel) fun t hf y => ?_
  blk_simp
  rw [after0_3]
  idx_vars y
  rw [out3_apply]
  simp only [blk0, blk1, blk2]
  have e : (win0_3.blk t).view.emb (ix2 y0 y1) = ix2 y0 ⟨1152 * t.val + y1.val, by have := lt_N t; omega⟩ := by
    blk_ext [idx t]
  rw [e]
  rfl

end Cert.Own.Mod

end
-- ==== Proof.Mod.Ref.lean ====
/- The reference of the modulation at a row and a column. -/
module

public import proofs.«01_k».proof.Proof.Gen.ModRefIdeal.Read
public import proofs.«01_k».proof.Proof.Mod.Affine

@[expose] public section

set_option maxRecDepth 16384

noncomputable section

namespace Cert.Own.ModRef

open Cert.ModRefIdeal Cert.ModRefIdeal.Read Idealize.ShloMosaic Idealize.ShloMosaic.TcCoe Idealize.SL.Sem
open Cert.Own.Mod

variable (x0 : (⟨S4x1024, .f32⟩ : BufTy).Contents (Elt Ideal)) (x1 : (⟨S1024, .f32⟩ : BufTy).Contents (Elt Ideal))
  (x2 : (⟨S2x1024x9216, .f32⟩ : BufTy).Contents (Elt Ideal)) (x3 : (⟨S2x9216, .f32⟩ : BufTy).Contents (Elt Ideal))

theorem v2_apply (r : Fin 8) (k : Fin 1024) :
    val_main_v2 x0 x1 (ix2 r k) = rows (fun r k => x0 (ix2 r k)) (fun k => x1 (ix1 k)) r k := by
  unfold rows
  pointwise [val_main_v2, val_main_v0, val_main_v1, val_main_cst]

theorem v11_apply (r : Fin 8) (j : Fin 9216) : val_main_v11 x0 x1 x2 x3 (ix2 r j)
    = affine (fun k => rows (fun r k => x0 (ix2 r k)) (fun k => x1 (ix1 k)) r k) (fun k => x2 (ix3 0 k j)) (x3 (ix2 0 j)) := by
  simp only [affine]
  pointwise [val_main_v11, val_main_v10, val_main_v9, val_main_v8, val_main_v7, val_main_v6, val_main_v5, val_main_v4, val_main_v3,
    v2_apply, val_main_call0_v0, val_main_call0_v1, val_main_call0_v2, val_main_call0_v3, val_main_call0_v4, val_main_call0_v5,
    val_main_call0_cst, val_main_call0_cst_0]
  rfl

end Cert.Own.ModRef

end
-- ==== Proof.Mod.Claim.lean ====
/- The modulation's kernel and its reference leave equal results, element by element over the extended reals. -/
module

public import proofs.«01_k».proof.Defs
public import proofs.«01_k».proof.Proof.Mod.Array
public import proofs.«01_k».proof.Proof.Mod.Ref

@[expose] public section

set_option maxRecDepth 16384

noncomputable section

namespace Cert.Own.Mod

open Idealize.ShloMosaic Idealize.ShloMosaic.TcCoe Idealize.SL.Sem

theorem algebraic : Cert.algebraic_ModIdeal_ModRefIdeal := by
  intro m g m' g' _ hagree
  refine ⟨fun c i => val m c (i 0) (i 1), ?_, ?_⟩
  · exact (θ_run Cert.ModIdeal.defs _ _).mono (fun _ h c => ⟨(h c).1.trans (array3 m c), (h c).2⟩)
      (Cert.ModIdeal.Value.run_blocks (F := Ideal) m g)
  · refine (θ_run Cert.ModRefIdeal.defs _ _).mono (fun _ h c => ⟨(h c).1.trans ?_, (h c).2⟩)
      (Cert.ModRefIdeal.Value.run (F := Ideal) m' g')
    rw [Cert.ModRefIdeal.Read.val_main_v11_eq]
    obtain ⟨h0, h1, h2, h3⟩ := hagree c
    rw [h0, h1, h2, h3]
    funext i
    idx_vars i
    exact Cert.Own.ModRef.v11_apply _ _ _ _ i0 i1

end Cert.Own.Mod

end
-- ==== Proof.Prep.Mix.lean ====
/- The projections' input at one token: the token's row, mixed with those of its four neighbours on the grid. -/
module

public import Idealize.ShloMosaic.Lib.Pipeline.ValueKit
public import Idealize.ShloMosaic.Lib.Pointwise

@[expose] public section

noncomputable section

namespace Cert.Own.Prep

open Idealize.ShloMosaic

/-- The row of token `n`, or zeros past the last. -/
def row (h : Fin 32768 → Fin 1024 → EReal) (n : ℕ) (k : Fin 1024) : EReal := if hn : n < 32768 then h ⟨n, hn⟩ k else 0

/-- What stands in column `k` of the shifted row: the first quarter of the columns reads the token on the left, the second
    that on the right, the third that above and the fourth that below, and a zero where there is none. Token `s` stands in
    row `p` of the rows `e`; a line of the grid has 64 tokens, a sequence 8192. -/
def near (e : ℕ → Fin 1024 → EReal) (p s : ℕ) (k : Fin 1024) : EReal :=
  if k.val < 256 then (if s % 64 = 0 then 0 else e (p - 1) k)
  else if k.val < 512 then (if s % 64 = 63 then 0 else e (p + 1) k)
  else if k.val < 768 then (if s % 8192 < 64 then 0 else e (p - 64) k)
  else (if 8128 ≤ s % 8192 then 0 else e (p + 64) k)

/-- The row moved towards the shifted row, in each column by the share `c`. -/
def mixed (e : ℕ → Fin 1024 → EReal) (p s : ℕ) (c : Fin 1024 → EReal) (k : Fin 1024) : EReal :=
  e p k + (near e p s k - e p k) * c k

/-- The mixed row against a column of a projection's weights. -/
def proj (e : ℕ → Fin 1024 → EReal) (p s : ℕ) (c w : Fin 1024 → EReal) : EReal := ∑ k : Fin 1024, mixed e p s c k * w k

/-- Two numberings of the rows give the same projection where they agree on the token and the neighbours that it has. -/
theorem proj_congr {e f : ℕ → Fin 1024 → EReal} {p q s : ℕ} (c w : Fin 1024 → EReal) (h : e p = f q)
    (hl : s % 64 ≠ 0 → e (p - 1) = f (q - 1)) (hr : s % 64 ≠ 63 → e (p + 1) = f (q + 1))
    (hu : ¬ s % 8192 < 64 → e (p - 64) = f (q - 64)) (hd : ¬ 8128 ≤ s % 8192 → e (p + 64) = f (q + 64)) :
    proj e p s c w = proj f q s c w := by
  unfold proj
  refine Finset.sum_congr rfl fun k _ => congrArg (· * w k) ?_
  have hn : near e p s k = near f q s k := by
    unfold near
    split_ifs with h1 h2 h2 h2 h3 h3 h3
    · rfl
    · rw [hl (by assumption)]
    · rfl
    · rw [hr (by assumption)]
    · rfl
    · rw [hu (by assumption)]
    · rfl
    · rw [hd (by assumption)]
  unfold mixed
  rw [h, hn]

/-- The projection `a`, whose rows are mixed by the shares `x`, at a token and a column, of the rows, the shares and the weights. -/
def val (h : Fin 32768 → Fin 1024 → EReal) (mix : Fin 6 → Fin 1024 → EReal) (w : Fin 3 → Fin 1024 → Fin 1024 → EReal) (x : Fin 6)
    (a : Fin 3) (s : ℕ) (j : Fin 1024) : EReal :=
  proj (row h) s s (mix x) fun k => w a k j

end Cert.Own.Prep

end
-- ==== Proof.Prep.Words.lean ====
/- The words in which the kernel computes a token's place on the grid. -/
module

public import proofs.«01_k».proof.Proof.Prep.Mix

@[expose] public section

set_option maxRecDepth 16384

noncomputable section

namespace Cert.Own.Prep

open Idealize.ShloMosaic

/-- A remainder that is never negative, as the kernel computes it. -/
def remWord (w d : BitVec 32) : BitVec 32 :=
  Scalar.select
    (IntOp.andi
      (IntOp.xori
        (IntOp.cmpi CmpIPredicate.slt (IntOp.remsi ArithUnit.vector w (Scalar.select (Scalar.cmpi CmpIPredicate.eq d 0#32) 1#32 d)) 0#32)
        (Scalar.cmpi CmpIPredicate.slt (Scalar.select (Scalar.cmpi CmpIPredicate.eq d 0#32) 1#32 d) 0#32))
      (IntOp.cmpi CmpIPredicate.ne (IntOp.remsi ArithUnit.vector w (Scalar.select (Scalar.cmpi CmpIPredicate.eq d 0#32) 1#32 d)) 0#32))
    (IntOp.addi (IntOp.remsi ArithUnit.vector w (Scalar.select (Scalar.cmpi CmpIPredicate.eq d 0#32) 1#32 d))
      (Scalar.select (Scalar.cmpi CmpIPredicate.eq d 0#32) 1#32 d))
    (IntOp.remsi ArithUnit.vector w (Scalar.select (Scalar.cmpi CmpIPredicate.eq d 0#32) 1#32 d))

/-- Is the token `o` further on in the same sequence? -/
def inSeq (w o : BitVec 32) : BitVec 1 :=
  IntOp.andi (IntOp.cmpi CmpIPredicate.sge (IntOp.addi w o) 0#32) (IntOp.cmpi CmpIPredicate.slt (IntOp.addi w o) 8192#32)

/-- Is the token `o` further on in the same sequence, and in the same line of the grid? -/
def inLine (w o : BitVec 32) : BitVec 1 :=
  IntOp.andi (IntOp.andi (inSeq w o) (IntOp.cmpi CmpIPredicate.sge (IntOp.addi (remWord w 64#32) o) 0#32))
    (IntOp.cmpi CmpIPredicate.slt (IntOp.addi (remWord w 64#32) o) 64#32)

end Cert.Own.Prep

end
-- ==== Proof.Prep.Rows.lean ====
/- The place of each row of a block in its sequence, checked word by word. -/
module

public import proofs.«01_k».proof.Proof.Prep.Words

@[expose] public section

set_option maxRecDepth 16384

noncomputable section

namespace Cert.Own.Prep

open Idealize.ShloMosaic

set_option maxHeartbeats 2000000 in
/-- The place, in its sequence, of a row of the lower half of the block `i`. -/
theorem low_word : ∀ (i : Fin 128) (r : Fin 128),
    remWord (IntOp.addi (Scalar.addi (Scalar.muli (BitVec.ofNat 32 i.val) 256#32) 0#32) (BitVec.ofNat 32 r.val)) 8192#32
      = BitVec.ofNat 32 ((256 * i.val + r.val) % 8192) := by
  decide +kernel

set_option maxHeartbeats 2000000 in
/-- The place, in its sequence, of a row of the upper half of the block `i`. -/
theorem high_word : ∀ (i : Fin 128) (r : Fin 128),
    remWord (IntOp.addi (Scalar.addi (Scalar.muli (BitVec.ofNat 32 i.val) 256#32) 128#32) (BitVec.ofNat 32 r.val)) 8192#32
      = BitVec.ofNat 32 ((256 * i.val + 128 + r.val) % 8192) := by
  decide +kernel

end Cert.Own.Prep

end
-- ==== Proof.Prep.Around.lean ====
/- Which neighbours a token has, checked word by word. -/
module

public import proofs.«01_k».proof.Proof.Prep.Words

@[expose] public section

set_option maxRecDepth 16384

noncomputable section

namespace Cert.Own.Prep

open Idealize.ShloMosaic

/-- Is there a token on the left? -/
theorem left_word : ∀ n : Fin 8192, inLine (BitVec.ofNat 32 n.val) 4294967295#32 = BitVec.ofBool (n.val % 64 ≠ 0) := by
  decide +kernel

/-- Is there a token on the right? -/
theorem right_word : ∀ n : Fin 8192, inLine (BitVec.ofNat 32 n.val) 1#32 = BitVec.ofBool (n.val % 64 ≠ 63) := by
  decide +kernel

/-- Is there a token above? -/
theorem up_word : ∀ n : Fin 8192, inSeq (BitVec.ofNat 32 n.val) 4294967232#32 = BitVec.ofBool (¬ n.val < 64) := by
  decide +kernel

/-- Is there a token below? -/
theorem down_word : ∀ n : Fin 8192, inSeq (BitVec.ofNat 32 n.val) 64#32 = BitVec.ofBool (¬ 8128 ≤ n.val) := by
  decide +kernel

end Cert.Own.Prep

end
-- ==== Proof.Prep.Place.lean ====
/- What the kernel's tests of a token's place on the grid select. -/
module

public import proofs.«01_k».proof.Proof.Prep.Rows
public import proofs.«01_k».proof.Proof.Prep.Around

@[expose] public section

set_option maxRecDepth 16384

noncomputable section

namespace Cert.Own.Prep

open Idealize.ShloMosaic

theorem pick_left (n : ℕ) (hn : n < 8192) (a b : EReal) :
    Scalar.select (inLine (BitVec.ofNat 32 n) 4294967295#32) a b = if n % 64 = 0 then b else a := by
  rw [left_word ⟨n, hn⟩]
  by_cases h : n % 64 = 0 <;> simp [Scalar.select, h]

theorem pick_right (n : ℕ) (hn : n < 8192) (a b : EReal) :
    Scalar.select (inLine (BitVec.ofNat 32 n) 1#32) a b = if n % 64 = 63 then b else a := by
  rw [right_word ⟨n, hn⟩]
  by_cases h : n % 64 = 63 <;> simp [Scalar.select, h]

theorem pick_up (n : ℕ) (hn : n < 8192) (a b : EReal) :
    Scalar.select (inSeq (BitVec.ofNat 32 n) 4294967232#32) a b = if n < 64 then b else a := by
  rw [up_word ⟨n, hn⟩]
  by_cases h : n < 64 <;> simp [Scalar.select, h]

theorem pick_down (n : ℕ) (hn : n < 8192) (a b : EReal) :
    Scalar.select (inSeq (BitVec.ofNat 32 n) 64#32) a b = if 8128 ≤ n then b else a := by
  rw [down_word ⟨n, hn⟩]
  by_cases h : 8128 ≤ n <;> simp [Scalar.select, h]

end Cert.Own.Prep

end
-- ==== Proof.Prep.Block.lean ====
/- What one grid point of the projections' kernel writes: a block of 256 tokens, with the 64 rows before it and the 64 after. -/
module

public import proofs.«01_k».proof.Proof.Prep.Mix
public import proofs.«01_k».proof.Proof.Gen.PrepIdeal.Value
public import proofs.«01_k».proof.Proof.Prep.Place

@[expose] public section

set_option maxRecDepth 16384

noncomputable section

namespace Cert.Own.Prep

open Cert.PrepIdeal Cert.PrepIdeal.Gen Idealize.ShloMosaic Idealize.ShloMosaic.TcCoe Idealize.SL.Sem

/-- The rows at hand, from the first of the 64 before the block to the last of the 64 after. -/
def ext (x0 : Vec Ideal S256x1024 .f32) (x1 x2 : Vec Ideal S64x1024 .f32) (e : ℕ) (k : Fin 1024) : EReal :=
  if h : e < 64 then x1 (ix2 ⟨e, h⟩ k) else if h : e - 64 < 256 then x0 (ix2 ⟨e - 64, h⟩ k)
    else if h : e - 320 < 64 then x2 (ix2 ⟨e - 320, h⟩ k) else 0

section half

variable (H : FVec Ideal S256x1024 .f32) (g : FVec Ideal S128x1024 .f32) (w : IVec S128x1 32)

/-- The first quarter of a half's shifted rows, of the half's 256 rows and the places of its 128 tokens. -/
def left : FVec Ideal S128x256 .f32 :=
  k0_pay18 w (extractStridedSlice S128x256 ![63, 0] H slices_S256x1024_o63_0_S128x256) (addi w (broadcast S128x1 4294967295#32)) k0_pay17

/-- The second quarter. -/
def right : FVec Ideal S128x256 .f32 := k0_pay21 w (k0_pay19 H) (k0_pay20 w)

/-- The third quarter. -/
def up : FVec Ideal S128x256 .f32 := k0_pay22 H w

/-- The shifted rows of a half, less the rows themselves. -/
def diff : FVec Ideal S128x1024 .f32 := k0_pay25 g w (left H w) (right H w) (up H w) (k0_pay23 H) k0_pay24

theorem left_apply (q : Fin 128) (j : Fin 256) (n : ℕ) (hn : n < 8192) (hw : w (ix2 q 0) = BitVec.ofNat 32 n) :
    left H w (ix2 q j)
      = if n % 64 = 0 then (0 : EReal) else H (ix2 ⟨63 + q.val, by omega⟩ ⟨j.val, by omega⟩) := by
  pointwise [left, k0_pay18, k0_pay17]
  rw [hw]
  exact (pick_left n hn _ _).trans (by congr)

theorem right_apply (q : Fin 128) (j : Fin 256) (n : ℕ) (hn : n < 8192) (hw : w (ix2 q 0) = BitVec.ofNat 32 n) :
    right H w (ix2 q j)
      = if n % 64 = 63 then (0 : EReal) else H (ix2 ⟨65 + q.val, by omega⟩ ⟨256 + j.val, by omega⟩) := by
  pointwise [right, k0_pay21, k0_pay19, k0_pay20]
  rw [hw]
  exact (pick_right n hn _ _).trans (by congr)

theorem up_apply (q : Fin 128) (j : Fin 256) (n : ℕ) (hn : n < 8192) (hw : w (ix2 q 0) = BitVec.ofNat 32 n) :
    up H w (ix2 q j) = if n < 64 then (0 : EReal) else H (ix2 ⟨0 + q.val, by omega⟩ ⟨512 + j.val, by omega⟩) := by
  pointwise [up, k0_pay22]
  rw [hw]
  exact (pick_up n hn _ _).trans (by congr)

theorem diff_apply (q : Fin 128) (j : Fin 1024) (n : ℕ) (hn : n < 8192) (hw : w (ix2 q 0) = BitVec.ofNat 32 n) :
    diff H g w (ix2 q j)
      = (if j.val < 256 then (if n % 64 = 0 then 0 else H (ix2 ⟨63 + q.val, by omega⟩ j))
          else if j.val < 512 then (if n % 64 = 63 then 0 else H (ix2 ⟨65 + q.val, by omega⟩ j))
          else if j.val < 768 then (if n < 64 then 0 else H (ix2 ⟨0 + q.val, by omega⟩ j))
          else (if 8128 ≤ n then 0 else H (ix2 ⟨128 + q.val, by omega⟩ j)) : EReal) - g (ix2 q j) := by
  unfold diff
  pointwise [k0_pay25, k0_pay23, k0_pay24]
  refine congrArg (· - g (ix2 q j)) ?_
  have hj := j.isLt
  by_cases h : j.val < 256
  · rw [dif_pos h, if_pos h, left_apply H w q _ n hn hw]
  · rw [dif_neg h, if_neg h]
    by_cases h' : j.val < 512
    · rw [dif_pos (by omega), if_pos h', right_apply H w q _ n hn hw]
      congr 2
      apply congrArg
      apply Fin.ext
      dsimp only
      omega
    · rw [dif_neg (by omega), if_neg h']
      by_cases h'' : j.val < 768
      · rw [dif_pos (by omega), if_pos h'', up_apply H w q _ n hn hw]
        congr 2
        exact congrArg₂ ix2 (Fin.ext (by dsimp only; omega)) (Fin.ext (by dsimp only; omega))
      · rw [dif_neg (by omega), if_neg h'', hw]
        refine (pick_down n hn _ _).trans ?_
        congr 2
        apply congrArg
        apply Fin.ext
        dsimp only
        omega

/-- A half's rows of the receptance. -/
def xr (v5 : FVec Ideal S6x1024 .f32) (v : Vec Ideal S1x1024x1024 .bf16) : FVec Ideal S128x1024 .f32 :=
  k0_pay31 v5 g w (left H w) (right H w) (up H w) (k0_pay23 H) k0_pay24 v

/-- A half's rows of the keys. -/
def xk (v5 : FVec Ideal S6x1024 .f32) (v : Vec Ideal S1x1024x1024 .bf16) : FVec Ideal S128x1024 .f32 :=
  k0_pay33 (k0_pay27 v5 g w (left H w) (right H w) (up H w) (k0_pay23 H) k0_pay24) (k0_pay32 v)

/-- A half's rows of the values. -/
def xv (v5 : FVec Ideal S6x1024 .f32) (v : Vec Ideal S1x1024x1024 .bf16) : FVec Ideal S128x1024 .f32 :=
  k0_pay34 (k0_pay28 v5 g w (left H w) (right H w) (up H w) (k0_pay23 H) k0_pay24) v

theorem xr_apply (v5 v) (q : Fin 128) (j : Fin 1024) : xr H g w v5 v (ix2 q j)
    = ∑ k : Fin 1024, (g (ix2 q k) + diff H g w (ix2 q k) * v5 (ix2 0 k)) * v (ix3 0 k j) := by
  unfold xr diff
  pointwise [k0_pay31]

theorem xk_apply (v5 v) (q : Fin 128) (j : Fin 1024) : xk H g w v5 v (ix2 q j)
    = ∑ k : Fin 1024, (g (ix2 q k) + diff H g w (ix2 q k) * v5 (ix2 2 k)) * v (ix3 0 k j) := by
  unfold xk diff
  pointwise [k0_pay33, k0_pay32, k0_pay27]

theorem xv_apply (v5 v) (q : Fin 128) (j : Fin 1024) : xv H g w v5 v (ix2 q j)
    = ∑ k : Fin 1024, (g (ix2 q k) + diff H g w (ix2 q k) * v5 (ix2 3 k)) * v (ix3 0 k j) := by
  unfold xv diff
  pointwise [k0_pay34, k0_pay28]

/-- A half's rows of a projection, when its 256 rows are those at hand from `o` on. -/
theorem half_apply (e : ℕ → Fin 1024 → EReal) (o b : ℕ) (hH : ∀ (a : Fin 256) (k : Fin 1024), H (ix2 a k) = e (o + a.val) k)
    (hg : ∀ (a : Fin 128) (k : Fin 1024), g (ix2 a k) = e (64 + (o + a.val)) k)
    (hw : ∀ a : Fin 128, w (ix2 a 0) = BitVec.ofNat 32 ((256 * b + o + a.val) % 8192)) (q : Fin 128) (c : Fin 1024 → EReal)
    (v : Fin 1024 → EReal) :
    ∑ k : Fin 1024, (g (ix2 q k) + diff H g w (ix2 q k) * c k) * v k
      = proj e (64 + (o + q.val)) (256 * b + (o + q.val)) c v := by
  unfold proj mixed near
  refine Finset.sum_congr rfl fun k _ => ?_
  rw [diff_apply H g w q k _ (Nat.mod_lt _ (by norm_num)) (hw q), hg]
  simp only [hH]
  rw [show o + (63 + q.val) = 64 + (o + q.val) - 1 by omega, show o + (65 + q.val) = 64 + (o + q.val) + 1 by omega,
    show o + (0 + q.val) = 64 + (o + q.val) - 64 by omega, show o + (128 + q.val) = 64 + (o + q.val) + 64 by omega,
    show (256 * b + o + q.val) % 8192 % 64 = (256 * b + (o + q.val)) % 64 by omega,
    show (256 * b + o + q.val) % 8192 = (256 * b + (o + q.val)) % 8192 by omega]

end half

variable (i : grid0.Coords) (u0 : Vec Ideal S256x1024 .f32) (u1 u2 : Vec Ideal S64x1024 .f32) (u3 : Vec Ideal S6x1024 .f32)
  (u4 : Vec Ideal S3x1024x1024 .bf16) (u5 : Vec Ideal S1024x128 .bf16) (u6 : Vec Ideal S128x2048 .bf16) (u7 : Vec Ideal S1024x128 .bf16)
  (u8 : Vec Ideal S128x2048 .bf16) (u9 : Vec Ideal S1024x256 .bf16) (u10 : Vec Ideal S256x1024 .bf16) (u11 : Vec Ideal S8x2048 .f32)

/-- The projection `a`, whose rows are mixed by the shares `x`, at row `r` of the block `b` and column `j`. -/
def rowVal (x : Fin 6) (a : Fin 3) (b r : ℕ) (j : Fin 1024) : EReal :=
  proj (ext u0 u1 u2) (64 + r) (256 * b + r) (fun k => u3 (ix2 x k)) (fun k => u4 (ix3 a k j))

theorem rows_apply (e : Fin 384) (k : Fin 1024) : k0_pay5 (View.ld u1 r0_0) (View.ld u0 r0_1) (View.ld u2 r0_0) (ix2 e k)
    = ext u0 u1 u2 e.val k := by
  unfold ext
  pointwise [k0_pay5, r0_0, r0_1]
  have he := e.isLt
  by_cases h : e.val < 64
  · rw [dif_pos h, dif_pos h]
  · rw [dif_neg h, dif_neg h]
    by_cases h' : e.val - 64 < 256
    · rw [dif_pos h', dif_pos h']
    · rw [dif_neg h', dif_neg h', dif_pos (by omega)]
      exact congrArg u2 (congrArg₂ ix2 (Fin.ext (by dsimp only; omega)) rfl)

theorem low_rows (a : Fin 256) (k : Fin 1024) : k0_pay152 i u0 u1 u2 u3 u4 u5 u6 u7 u8 u9 u10 u11 (ix2 a k) = ext u0 u1 u2 (0 + a.val) k := by
  rw [← rows_apply u0 u1 u2 ⟨0 + a.val, by omega⟩ k]
  pointwise [k0_pay152, k0_pay12]

theorem low_own (a : Fin 128) (k : Fin 1024) :
    k0_pay153 i u0 u1 u2 u3 u4 u5 u6 u7 u8 u9 u10 u11 (ix2 a k) = ext u0 u1 u2 (64 + (0 + a.val)) k := by
  rw [← rows_apply u0 u1 u2 ⟨64 + (0 + a.val), by omega⟩ k]
  pointwise [k0_pay153, k0_pay13, k0_pay12]

theorem low_place (a : Fin 128) : k0_pay154 i u0 u1 u2 u3 u4 u5 u6 u7 u8 u9 u10 u11 (ix2 a 0)
    = BitVec.ofNat 32 ((256 * (i 0).val + 0 + a.val) % 8192) := by
  pointwise [k0_pay154, k0_pay14]
  exact low_word (i 0) a

theorem high_rows (a : Fin 256) (k : Fin 1024) :
    k0_pay163 i u0 u1 u2 u3 u4 u5 u6 u7 u8 u9 u10 u11 (ix2 a k) = ext u0 u1 u2 (128 + a.val) k := by
  rw [← rows_apply u0 u1 u2 ⟨128 + a.val, by omega⟩ k]
  pointwise [k0_pay163, k0_pay38, k0_pay145]

theorem high_own (a : Fin 128) (k : Fin 1024) :
    k0_pay164 i u0 u1 u2 u3 u4 u5 u6 u7 u8 u9 u10 u11 (ix2 a k) = ext u0 u1 u2 (64 + (128 + a.val)) k := by
  rw [← rows_apply u0 u1 u2 ⟨64 + (128 + a.val), by omega⟩ k]
  pointwise [k0_pay164, k0_pay39, k0_pay38, k0_pay145]
  congr 1
  first | rfl | (apply congrArg₂ <;> first | rfl | (apply Fin.ext; dsimp only; omega))

theorem high_place (a : Fin 128) : k0_pay165 i u0 u1 u2 u3 u4 u5 u6 u7 u8 u9 u10 u11 (ix2 a 0)
    = BitVec.ofNat 32 ((256 * (i 0).val + 128 + a.val) % 8192) := by
  pointwise [k0_pay165, k0_pay40]
  exact high_word (i 0) a

theorem mix_apply (x : Fin 6) (k : Fin 1024) : k0_pay146 i u0 u1 u2 u3 u4 u5 u6 u7 u8 u9 u10 u11 (ix2 x k) = u3 (ix2 x k) := by
  pointwise [k0_pay146, k0_pay6, r0_2]

theorem ld4 (k j : Fin 1024) : View.ld u4 r0_4 (ix3 0 k j) = u4 (ix3 0 k j) := by
  pointwise [r0_4]

theorem ld5 (k j : Fin 1024) : View.ld u4 r0_5 (ix3 0 k j) = u4 (ix3 1 k j) := by
  pointwise [r0_5]

theorem ld6 (k j : Fin 1024) : View.ld u4 r0_6 (ix3 0 k j) = u4 (ix3 2 k j) := by
  pointwise [r0_6]

theorem low_k (q : Fin 128) (j : Fin 1024) : k0_pay161 i u0 u1 u2 u3 u4 u5 u6 u7 u8 u9 u10 u11 (ix2 q j)
    = rowVal u0 u1 u2 u3 u4 2 1 (i 0).val (0 + q.val) j := by
  have e : k0_pay161 i u0 u1 u2 u3 u4 u5 u6 u7 u8 u9 u10 u11 = xk (k0_pay152 i u0 u1 u2 u3 u4 u5 u6 u7 u8 u9 u10 u11) (k0_pay153 i u0 u1 u2 u3 u4 u5 u6 u7 u8 u9 u10 u11)
      (k0_pay154 i u0 u1 u2 u3 u4 u5 u6 u7 u8 u9 u10 u11) (k0_pay146 i u0 u1 u2 u3 u4 u5 u6 u7 u8 u9 u10 u11) (View.ld u4 r0_5) := rfl
  rw [e, xk_apply]
  simp only [mix_apply]
  exact (Finset.sum_congr rfl fun k _ => congrArg (_ * ·) (ld5 u4 k j)).trans (half_apply _ _ _ (ext u0 u1 u2) 0 (i 0).val (low_rows i u0 u1 u2 u3 u4 u5 u6 u7 u8 u9 u10 u11) (low_own i u0 u1 u2 u3 u4 u5 u6 u7 u8 u9 u10 u11)
    (low_place i u0 u1 u2 u3 u4 u5 u6 u7 u8 u9 u10 u11) q (fun k => u3 (ix2 2 k)) (fun k => u4 (ix3 1 k j)))

theorem high_k (q : Fin 128) (j : Fin 1024) : k0_pay172 i u0 u1 u2 u3 u4 u5 u6 u7 u8 u9 u10 u11 (ix2 q j)
    = rowVal u0 u1 u2 u3 u4 2 1 (i 0).val (128 + q.val) j := by
  have e : k0_pay172 i u0 u1 u2 u3 u4 u5 u6 u7 u8 u9 u10 u11 = xk (k0_pay163 i u0 u1 u2 u3 u4 u5 u6 u7 u8 u9 u10 u11) (k0_pay164 i u0 u1 u2 u3 u4 u5 u6 u7 u8 u9 u10 u11)
      (k0_pay165 i u0 u1 u2 u3 u4 u5 u6 u7 u8 u9 u10 u11) (k0_pay146 i u0 u1 u2 u3 u4 u5 u6 u7 u8 u9 u10 u11) (View.ld u4 r0_5) := rfl
  rw [e, xk_apply]
  simp only [mix_apply]
  exact (Finset.sum_congr rfl fun k _ => congrArg (_ * ·) (ld5 u4 k j)).trans (half_apply _ _ _ (ext u0 u1 u2) 128 (i 0).val (high_rows i u0 u1 u2 u3 u4 u5 u6 u7 u8 u9 u10 u11) (high_own i u0 u1 u2 u3 u4 u5 u6 u7 u8 u9 u10 u11)
    (high_place i u0 u1 u2 u3 u4 u5 u6 u7 u8 u9 u10 u11) q (fun k => u3 (ix2 2 k)) (fun k => u4 (ix3 1 k j)))

theorem low_v (q : Fin 128) (j : Fin 1024) : k0_pay162 i u0 u1 u2 u3 u4 u5 u6 u7 u8 u9 u10 u11 (ix2 q j)
    = rowVal u0 u1 u2 u3 u4 3 2 (i 0).val (0 + q.val) j := by
  have e : k0_pay162 i u0 u1 u2 u3 u4 u5 u6 u7 u8 u9 u10 u11 = xv (k0_pay152 i u0 u1 u2 u3 u4 u5 u6 u7 u8 u9 u10 u11) (k0_pay153 i u0 u1 u2 u3 u4 u5 u6 u7 u8 u9 u10 u11)
      (k0_pay154 i u0 u1 u2 u3 u4 u5 u6 u7 u8 u9 u10 u11) (k0_pay146 i u0 u1 u2 u3 u4 u5 u6 u7 u8 u9 u10 u11) (View.ld u4 r0_6) := rfl
  rw [e, xv_apply]
  simp only [mix_apply]
  exact (Finset.sum_congr rfl fun k _ => congrArg (_ * ·) (ld6 u4 k j)).trans (half_apply _ _ _ (ext u0 u1 u2) 0 (i 0).val (low_rows i u0 u1 u2 u3 u4 u5 u6 u7 u8 u9 u10 u11) (low_own i u0 u1 u2 u3 u4 u5 u6 u7 u8 u9 u10 u11)
    (low_place i u0 u1 u2 u3 u4 u5 u6 u7 u8 u9 u10 u11) q (fun k => u3 (ix2 3 k)) (fun k => u4 (ix3 2 k j)))

theorem high_v (q : Fin 128) (j : Fin 1024) : k0_pay173 i u0 u1 u2 u3 u4 u5 u6 u7 u8 u9 u10 u11 (ix2 q j)
    = rowVal u0 u1 u2 u3 u4 3 2 (i 0).val (128 + q.val) j := by
  have e : k0_pay173 i u0 u1 u2 u3 u4 u5 u6 u7 u8 u9 u10 u11 = xv (k0_pay163 i u0 u1 u2 u3 u4 u5 u6 u7 u8 u9 u10 u11) (k0_pay164 i u0 u1 u2 u3 u4 u5 u6 u7 u8 u9 u10 u11)
      (k0_pay165 i u0 u1 u2 u3 u4 u5 u6 u7 u8 u9 u10 u11) (k0_pay146 i u0 u1 u2 u3 u4 u5 u6 u7 u8 u9 u10 u11) (View.ld u4 r0_6) := rfl
  rw [e, xv_apply]
  simp only [mix_apply]
  exact (Finset.sum_congr rfl fun k _ => congrArg (_ * ·) (ld6 u4 k j)).trans (half_apply _ _ _ (ext u0 u1 u2) 128 (i 0).val (high_rows i u0 u1 u2 u3 u4 u5 u6 u7 u8 u9 u10 u11) (high_own i u0 u1 u2 u3 u4 u5 u6 u7 u8 u9 u10 u11)
    (high_place i u0 u1 u2 u3 u4 u5 u6 u7 u8 u9 u10 u11) q (fun k => u3 (ix2 3 k)) (fun k => u4 (ix3 2 k j)))

theorem low_r (q : Fin 128) (j : Fin 1024) : k0_pay160 i u0 u1 u2 u3 u4 u5 u6 u7 u8 u9 u10 u11 (ix2 q j)
    = rowVal u0 u1 u2 u3 u4 0 0 (i 0).val (0 + q.val) j := by
  have e : k0_pay160 i u0 u1 u2 u3 u4 u5 u6 u7 u8 u9 u10 u11 = xr (k0_pay152 i u0 u1 u2 u3 u4 u5 u6 u7 u8 u9 u10 u11) (k0_pay153 i u0 u1 u2 u3 u4 u5 u6 u7 u8 u9 u10 u11)
      (k0_pay154 i u0 u1 u2 u3 u4 u5 u6 u7 u8 u9 u10 u11) (k0_pay146 i u0 u1 u2 u3 u4 u5 u6 u7 u8 u9 u10 u11) (View.ld u4 r0_4) := rfl
  rw [e, xr_apply]
  simp only [mix_apply]
  exact (Finset.sum_congr rfl fun k _ => congrArg (_ * ·) (ld4 u4 k j)).trans (half_apply _ _ _ (ext u0 u1 u2) 0 (i 0).val (low_rows i u0 u1 u2 u3 u4 u5 u6 u7 u8 u9 u10 u11) (low_own i u0 u1 u2 u3 u4 u5 u6 u7 u8 u9 u10 u11)
    (low_place i u0 u1 u2 u3 u4 u5 u6 u7 u8 u9 u10 u11) q (fun k => u3 (ix2 0 k)) (fun k => u4 (ix3 0 k j)))

theorem high_r (q : Fin 128) (j : Fin 1024) : k0_pay171 i u0 u1 u2 u3 u4 u5 u6 u7 u8 u9 u10 u11 (ix2 q j)
    = rowVal u0 u1 u2 u3 u4 0 0 (i 0).val (128 + q.val) j := by
  have e : k0_pay171 i u0 u1 u2 u3 u4 u5 u6 u7 u8 u9 u10 u11 = xr (k0_pay163 i u0 u1 u2 u3 u4 u5 u6 u7 u8 u9 u10 u11) (k0_pay164 i u0 u1 u2 u3 u4 u5 u6 u7 u8 u9 u10 u11)
      (k0_pay165 i u0 u1 u2 u3 u4 u5 u6 u7 u8 u9 u10 u11) (k0_pay146 i u0 u1 u2 u3 u4 u5 u6 u7 u8 u9 u10 u11) (View.ld u4 r0_4) := rfl
  rw [e, xr_apply]
  simp only [mix_apply]
  exact (Finset.sum_congr rfl fun k _ => congrArg (_ * ·) (ld4 u4 k j)).trans (half_apply _ _ _ (ext u0 u1 u2) 128 (i 0).val (high_rows i u0 u1 u2 u3 u4 u5 u6 u7 u8 u9 u10 u11) (high_own i u0 u1 u2 u3 u4 u5 u6 u7 u8 u9 u10 u11)
    (high_place i u0 u1 u2 u3 u4 u5 u6 u7 u8 u9 u10 u11) q (fun k => u3 (ix2 0 k)) (fun k => u4 (ix3 0 k j)))

/-- What a grid point leaves in its block of the keys. -/
theorem out12_apply (r : Fin 256) (j : Fin 1024) : out0_12 i u0 u1 u2 u3 u4 u5 u6 u7 u8 u9 u10 u11 (ix2 r j)
    = rowVal u0 u1 u2 u3 u4 2 1 (i 0).val r.val j := by
  unfold out0_12
  canon_tiles x h
  · idx_vars x
    refine (high_k i u0 u1 u2 u3 u4 u5 u6 u7 u8 u9 u10 u11 _ _).trans ?_
    rw [h0, (Fin.ext h1 : j = x1)]
  · idx_vars x
    refine (low_k i u0 u1 u2 u3 u4 u5 u6 u7 u8 u9 u10 u11 _ _).trans ?_
    rw [h0, Nat.zero_add, (Fin.ext h1 : j = x1)]

/-- What a grid point leaves in its block of the values. -/
theorem out13_apply (r : Fin 256) (j : Fin 1024) : out0_13 i u0 u1 u2 u3 u4 u5 u6 u7 u8 u9 u10 u11 (ix2 r j)
    = rowVal u0 u1 u2 u3 u4 3 2 (i 0).val r.val j := by
  unfold out0_13
  canon_tiles x h
  · idx_vars x
    refine (high_v i u0 u1 u2 u3 u4 u5 u6 u7 u8 u9 u10 u11 _ _).trans ?_
    rw [h0, (Fin.ext h1 : j = x1)]
  · idx_vars x
    refine (low_v i u0 u1 u2 u3 u4 u5 u6 u7 u8 u9 u10 u11 _ _).trans ?_
    rw [h0, Nat.zero_add, (Fin.ext h1 : j = x1)]

/-- What a grid point leaves in its block of the receptance. -/
theorem out15_apply (r : Fin 256) (j : Fin 1024) : out0_15 i u0 u1 u2 u3 u4 u5 u6 u7 u8 u9 u10 u11 (ix2 r j)
    = rowVal u0 u1 u2 u3 u4 0 0 (i 0).val r.val j := by
  unfold out0_15
  canon_tiles x h
  · idx_vars x
    refine (high_r i u0 u1 u2 u3 u4 u5 u6 u7 u8 u9 u10 u11 _ _).trans ?_
    rw [h0, (Fin.ext h1 : j = x1)]
  · idx_vars x
    refine (low_r i u0 u1 u2 u3 u4 u5 u6 u7 u8 u9 u10 u11 _ _).trans ?_
    rw [h0, Nat.zero_add, (Fin.ext h1 : j = x1)]

end Cert.Own.Prep

end
-- ==== Proof.Prep.Array.lean ====
/- What the projections' kernel leaves in the arrays of the keys, the values and the receptance. -/
module

public import proofs.«01_k».proof.Proof.Prep.Block

@[expose] public section

set_option maxRecDepth 16384

noncomputable section

namespace Cert.Own.Prep

open Cert.PrepIdeal Cert.PrepIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![4 * t.val - 1, 0]
    ∧ win0_2.index t = ![min (4 * (t.val + 1)) 511, 0] ∧ win0_3.index t = ![0, 0] ∧ win0_4.index t = ![0, 0, 0]
    ∧ win0_12.index t = ![t.val, 0] ∧ win0_13.index t = ![t.val, 0] ∧ win0_15.index t = ![t.val, 0] :=
  (by decide +kernel : ∀ t : Fin grid0.N, _)

theorem coord : ∀ t : Fin cfg0.N, (grid0.coords t 0).val = t.val :=
  (by decide +kernel : ∀ t : Fin grid0.N, (grid0.coords t 0).val = t.val)

theorem lt_N (t : Fin cfg0.N) : t.val < 128 := lt_of_lt_of_eq t.isLt N_0

/-- The projection at a token and a column, of the arguments. -/
def out (x : Fin 6) (a : Fin 3) (s : Fin 32768) (j : Fin 1024) : EReal :=
  val (fun n k => m ((c : Thread nD τ).loc main_arg0) (ix2 n k)) (fun x k => m ((c : Thread nD τ).loc main_arg1) (ix3 0 x k))
    (fun a k j => m ((c : Thread nD τ).loc main_arg2) (ix4 0 a k j)) x a s.val j

theorem blk0 (t : Fin cfg0.N) (r : Fin 256) (k : Fin 1024) : iblk m c 0 t (ix2 r k)
    = m ((c : Thread nD τ).loc main_arg0) (ix2 ⟨256 * t.val + r.val, by have := lt_N t; omega⟩ k) := by
  blk_ext! [iblk, V, idx t]

theorem blk1 (t : Fin cfg0.N) (r : Fin 64) (k : Fin 1024) : iblk m c 1 t (ix2 r k)
    = m ((c : Thread nD τ).loc main_arg0) (ix2 ⟨64 * (4 * t.val - 1) + r.val, by have := lt_N t; omega⟩ k) := by
  blk_ext! [iblk, V, idx t]

theorem blk2 (t : Fin cfg0.N) (r : Fin 64) (k : Fin 1024) : iblk m c 2 t (ix2 r k)
    = m ((c : Thread nD τ).loc main_arg0) (ix2 ⟨64 * min (4 * (t.val + 1)) 511 + r.val, by have := lt_N t; omega⟩ k) := by
  blk_ext! [iblk, V, idx t]

theorem blk3 (t : Fin cfg0.N) (x : Fin 6) (k : Fin 1024) : iblk m c 3 t (ix2 x k)
    = m ((c : Thread nD τ).loc main_arg1) (ix3 0 x k) := by
  blk_ext! [iblk, V, idx t]

theorem blk4 (t : Fin cfg0.N) (a : Fin 3) (k j : Fin 1024) : iblk m c 4 t (ix3 a k j)
    = m ((c : Thread nD τ).loc main_arg2) (ix4 0 a k j) := by
  blk_ext! [iblk, V, idx t]

/-- Away from the two ends of the whole array, the rows at hand are the tokens' rows. -/
theorem ext_eq (t : Fin cfg0.N) (e n : ℕ) (he : e < 384) (hn : n + 64 = 256 * t.val + e) (hl : n < 32768) :
    ext (iblk m c 0 t) (iblk m c 1 t) (iblk m c 2 t) e = row (fun n k => m ((c : Thread nD τ).loc main_arg0) (ix2 n k)) n := by
  have ht := lt_N t
  funext k
  unfold row ext
  rw [dif_pos hl]
  by_cases h : e < 64
  · rw [dif_pos h, blk1, (Fin.ext (by dsimp only; omega) : (⟨64 * (4 * t.val - 1) + e, by omega⟩ : Fin 32768) = ⟨n, hl⟩)]
  · by_cases h' : e - 64 < 256
    · rw [dif_neg h, dif_pos h', blk0, (Fin.ext (by dsimp only; omega) : (⟨256 * t.val + (e - 64), by omega⟩ : Fin 32768) = ⟨n, hl⟩)]
    · rw [dif_neg h, dif_neg h', dif_pos (by omega), blk2,
        (Fin.ext (by dsimp only; omega) : (⟨64 * min (4 * (t.val + 1)) 511 + (e - 320), by omega⟩ : Fin 32768) = ⟨n, hl⟩)]

theorem row_eq (x : Fin 6) (a : Fin 3) (t : Fin cfg0.N) (r : Fin 256) (j : Fin 1024) :
    rowVal (iblk m c 0 t) (iblk m c 1 t) (iblk m c 2 t) (iblk m c 3 t) (iblk m c 4 t) x a (grid0.coords t 0).val r.val j
      = out m c x a ⟨256 * t.val + r.val, by have := lt_N t; omega⟩ j := by
  have ht := lt_N t
  have hr := r.isLt
  unfold rowVal out val
  rw [coord]
  simp only [blk3, blk4]
  refine proj_congr _ _ ?_ (fun h => ?_) (fun h => ?_) (fun h => ?_) fun h => ?_
  · exact ext_eq m c t _ _ (by omega) (by omega) (by omega)
  · exact ext_eq m c t _ _ (by omega) (by omega) (by omega)
  · exact ext_eq m c t _ _ (by omega) (by omega) (by omega)
  · exact ext_eq m c t _ _ (by omega) (by omega) (by omega)
  · exact ext_eq m c t _ _ (by omega) (by omega) (by omega)

/-- The array of the keys after the run. -/
theorem array12 : (dats m 0 c).arrAt 12 cfg0.N = fun i => out m c 2 1 (i 0) (i 1) := by
  refine (dats m 0 c).arrAt_eq_of_covers 12 _ (by decide +kernel) fun t hf y => ?_
  blk_simp
  rw [after0_12]
  idx_vars y
  rw [out12_apply, row_eq]
  have e : (win0_12.blk t).view.emb (ix2 y0 y1) = ix2 ⟨256 * t.val + y0.val, by have := lt_N t; omega⟩ y1 := by
    blk_ext [idx t]
  rw [e]
  rfl

/-- The array of the values after the run. -/
theorem array13 : (dats m 0 c).arrAt 13 cfg0.N = fun i => out m c 3 2 (i 0) (i 1) := by
  refine (dats m 0 c).arrAt_eq_of_covers 13 _ (by decide +kernel) fun t hf y => ?_
  blk_simp
  rw [after0_13]
  idx_vars y
  rw [out13_apply, row_eq]
  have e : (win0_13.blk t).view.emb (ix2 y0 y1) = ix2 ⟨256 * t.val + y0.val, by have := lt_N t; omega⟩ y1 := by
    blk_ext [idx t]
  rw [e]
  rfl

/-- The array of the receptance after the run. -/
theorem array15 : (dats m 0 c).arrAt 15 cfg0.N = fun i => out m c 0 0 (i 0) (i 1) := by
  refine (dats m 0 c).arrAt_eq_of_covers 15 _ (by decide +kernel) fun t hf y => ?_
  blk_simp
  rw [after0_15]
  idx_vars y
  rw [out15_apply, row_eq]
  have e : (win0_15.blk t).view.emb (ix2 y0 y1) = ix2 ⟨256 * t.val + y0.val, by have := lt_N t; omega⟩ y1 := by
    blk_ext [idx t]
  rw [e]
  rfl

end Cert.Own.Prep

end
-- ==== Proof.Prep.Ref.lean ====
/- The reference of the keys, the values and the receptance at a token and a column. -/
module

public import proofs.«01_k».proof.Proof.Gen.PrepRefIdeal.Read
public import proofs.«01_k».proof.Proof.Prep.Mix

@[expose] public section

set_option maxRecDepth 16384

noncomputable section

namespace Cert.Own.PrepRef

open Cert.PrepRefIdeal Cert.PrepRefIdeal.Read Idealize.ShloMosaic Idealize.ShloMosaic.TcCoe Idealize.SL.Sem
open Cert.Own.Prep (row near mixed proj val)

variable (x0 : (⟨S32768x1024, .f32⟩ : BufTy).Contents (Elt Ideal)) (x1 : (⟨S1x6x1024, .f32⟩ : BufTy).Contents (Elt Ideal))
  (x2 : (⟨S1x3x1024x1024, .f32⟩ : BufTy).Contents (Elt Ideal))

/-- The tokens' rows. -/
def rows : ℕ → Fin 1024 → EReal := row fun n k => x0 (ix2 n k)

theorem rows_of (n : ℕ) (hn : n < 32768) (k : Fin 1024) : x0 (ix2 ⟨n, hn⟩ k) = rows x0 n k := by
  unfold rows row
  rw [dif_pos hn]

theorem v0_apply (b : Fin 4) (p : Fin 8192) (k : Fin 1024) : val_main_v0 x0 (ix3 b p k) = rows x0 (8192 * b.val + p.val) k := by
  rw [← rows_of x0 _ (by omega)]
  pointwise [val_main_v0]
  congr 2
  apply Fin.ext
  dsimp only
  omega

theorem v1_apply (b : Fin 4) (y : Fin 128) (x : Fin 64) (k : Fin 1024) : val_main_v1 x0 (ix4 b y x k)
    = rows x0 (8192 * b.val + (64 * y.val + x.val)) k := by
  rw [← v0_apply x0 b ⟨64 * y.val + x.val, by omega⟩]
  pointwise [val_main_v1]
  try (congr 2; apply Fin.ext; dsimp only; omega)

theorem pad_zero : (FloatOps.sitofp (F := Ideal) FTy.f32 0#32 : EReal) = 0 := by
  simp [FloatOps.sitofp]

/-- The grid of each sequence with a border of zeros. -/
theorem v2_apply (b : Fin 4) (y : Fin 130) (x : Fin 66) (k : Fin 1024) : val_main_v2 x0 (ix4 b y x k)
    = if (1 ≤ y.val ∧ y.val - 1 < 128) ∧ 1 ≤ x.val ∧ x.val - 1 < 64 then
        rows x0 (8192 * b.val + (64 * (y.val - 1) + (x.val - 1))) k else (0 : EReal) := by
  pointwise [val_main_v2, val_main_call0_v0, val_main_c]
  by_cases h : (1 ≤ y.val ∧ y.val - 1 < 128) ∧ 1 ≤ x.val ∧ x.val - 1 < 64
  · rw [if_pos h]
    first
      | rw [dif_pos (by simpa [and_assoc] using h), v1_apply]
      | rw [dif_pos h, v1_apply]
  · rw [if_neg h]
    first
      | rw [dif_neg (by simpa [and_assoc] using h), pad_zero]
      | rw [dif_neg h, pad_zero]

theorem v3_apply (b : Fin 4) (y : Fin 128) (x : Fin 64) (k : Fin 256) : val_main_v3 x0 (ix4 b y x k)
    = val_main_v2 x0 (ix4 b ⟨1 + y.val, by omega⟩ ⟨0 + x.val, by omega⟩ ⟨0 + k.val, by omega⟩) := by
  pointwise [val_main_v3]
  try (first | rfl | (congr 1; congr 1 <;> first | rfl | (apply Fin.ext; dsimp only; omega)))

theorem v4_apply (b : Fin 4) (y : Fin 128) (x : Fin 64) (k : Fin 256) : val_main_v4 x0 (ix4 b y x k)
    = val_main_v2 x0 (ix4 b ⟨1 + y.val, by omega⟩ ⟨2 + x.val, by omega⟩ ⟨256 + k.val, by omega⟩) := by
  pointwise [val_main_v4]
  try (first | rfl | (congr 1; congr 1 <;> first | rfl | (apply Fin.ext; dsimp only; omega)))

theorem v5_apply (b : Fin 4) (y : Fin 128) (x : Fin 64) (k : Fin 256) : val_main_v5 x0 (ix4 b y x k)
    = val_main_v2 x0 (ix4 b ⟨0 + y.val, by omega⟩ ⟨1 + x.val, by omega⟩ ⟨512 + k.val, by omega⟩) := by
  pointwise [val_main_v5]
  try (first | rfl | (congr 1; congr 1 <;> first | rfl | (apply Fin.ext; dsimp only; omega)))

theorem v6_apply (b : Fin 4) (y : Fin 128) (x : Fin 64) (k : Fin 256) : val_main_v6 x0 (ix4 b y x k)
    = val_main_v2 x0 (ix4 b ⟨2 + y.val, by omega⟩ ⟨1 + x.val, by omega⟩ ⟨768 + k.val, by omega⟩) := by
  pointwise [val_main_v6]
  try (first | rfl | (congr 1; congr 1 <;> first | rfl | (apply Fin.ext; dsimp only; omega)))

theorem v7_left (b : Fin 4) (y : Fin 128) (x : Fin 64) (k : Fin 1024) (h : k.val < 256) :
    val_main_v7 x0 (ix4 b y x k) = val_main_v3 x0 (ix4 b y x ⟨k.val, by omega⟩) := by
  pointwise [val_main_v7]
  rw [dif_pos h]

theorem v7_right (b : Fin 4) (y : Fin 128) (x : Fin 64) (k : Fin 1024) (h : ¬ k.val < 256) (h' : k.val < 512) :
    val_main_v7 x0 (ix4 b y x k) = val_main_v4 x0 (ix4 b y x ⟨k.val - 256, by omega⟩) := by
  pointwise [val_main_v7]
  rw [dif_neg h, dif_pos (by omega)]

theorem v7_up (b : Fin 4) (y : Fin 128) (x : Fin 64) (k : Fin 1024) (h : ¬ k.val < 512) (h' : k.val < 768) :
    val_main_v7 x0 (ix4 b y x k) = val_main_v5 x0 (ix4 b y x ⟨k.val - 256 - 256, by omega⟩) := by
  pointwise [val_main_v7]
  rw [dif_neg (by omega), dif_neg (by omega), dif_pos (by omega)]

theorem v7_down (b : Fin 4) (y : Fin 128) (x : Fin 64) (k : Fin 1024) (h : ¬ k.val < 768) :
    val_main_v7 x0 (ix4 b y x k) = val_main_v6 x0 (ix4 b y x ⟨k.val - 256 - 256 - 256, by omega⟩) := by
  pointwise [val_main_v7]
  rw [dif_neg (by omega), dif_neg (by omega), dif_neg (by omega)]

/-- The shifted rows. -/
theorem v8_apply (b : Fin 4) (p : Fin 8192) (k : Fin 1024) : val_main_v8 x0 (ix3 b p k)
    = near (rows x0) (8192 * b.val + p.val) (8192 * b.val + p.val) k := by
  have hp := p.isLt
  have hk := k.isLt
  have e : val_main_v8 x0 (ix3 b p k) = val_main_v7 x0 (ix4 b ⟨p.val / 64, by omega⟩ ⟨p.val % 64, by omega⟩ k) := by
    pointwise [val_main_v8]
    try (congr 2 <;> first | rfl | (apply Fin.ext; dsimp only; omega))
  rw [e]
  unfold near
  by_cases h1 : k.val < 256
  · rw [if_pos h1, v7_left _ _ _ _ _ h1, v3_apply, v2_apply]
    by_cases h : p.val % 64 = 0
    · rw [if_neg (by dsimp only; omega), if_pos (by omega)]
    · rw [if_pos (by dsimp only; omega), if_neg (by omega)]
      exact congrArg₂ (rows x0) (by dsimp only; omega) (Fin.ext (by dsimp only; omega))
  rw [if_neg h1]
  by_cases h2 : k.val < 512
  · rw [if_pos h2, v7_right _ _ _ _ _ h1 h2, v4_apply, v2_apply]
    by_cases h : p.val % 64 = 63
    · rw [if_neg (by dsimp only; omega), if_pos (by omega)]
    · rw [if_pos (by dsimp only; omega), if_neg (by omega)]
      exact congrArg₂ (rows x0) (by dsimp only; omega) (Fin.ext (by dsimp only; omega))
  rw [if_neg h2]
  by_cases h3 : k.val < 768
  · rw [if_pos h3, v7_up _ _ _ _ _ h2 h3, v5_apply, v2_apply]
    by_cases h : p.val < 64
    · rw [if_neg (by dsimp only; omega), if_pos (by omega)]
    · rw [if_pos (by dsimp only; omega), if_neg (by omega)]
      exact congrArg₂ (rows x0) (by dsimp only; omega) (Fin.ext (by dsimp only; omega))
  rw [if_neg h3, v7_down _ _ _ _ _ h3, v6_apply, v2_apply]
  by_cases h : 8128 ≤ p.val
  · rw [if_neg (by dsimp only; omega), if_pos (by omega)]
  · rw [if_pos (by dsimp only; omega), if_neg (by omega)]
    exact congrArg₂ (rows x0) (by dsimp only; omega) (Fin.ext (by dsimp only; omega))

theorem sub_at (A B : FVec Ideal S4x8192x1024 .f32) (i : S4x8192x1024.Idx) : subf A B i = A i - B i := rfl

theorem v9_apply (b : Fin 4) (p : Fin 8192) (k : Fin 1024) : val_main_v9 x0 (ix3 b p k)
    = near (rows x0) (8192 * b.val + p.val) (8192 * b.val + p.val) k - rows x0 (8192 * b.val + p.val) k := by
  have e : val_main_v9 x0 (ix3 b p k) = val_main_v8 x0 (ix3 b p k) - val_main_v0 x0 (ix3 b p k) :=
    sub_at (val_main_v8 x0) (val_main_v0 x0) (ix3 b p k)
  rw [e, v8_apply, v0_apply]

theorem v21_at (A B : FVec Ideal S4x8192x1024 .f32) (b : Fin 4) (p : Fin 8192) (k : Fin 1024) :
    addf A (mulf B (val_main_v19 x1)) (ix3 b p k) = A (ix3 b p k) + B (ix3 b p k) * x1 (ix3 0 2 k) := by
  pointwise [val_main_v19, val_main_v18, val_main_v17, val_main_v16]

/-- The rows mixed for the keys. -/
theorem v21_apply (b : Fin 4) (p : Fin 8192) (k : Fin 1024) : val_main_v21 x0 x1 (ix3 b p k)
    = mixed (rows x0) (8192 * b.val + p.val) (8192 * b.val + p.val) (fun k => x1 (ix3 0 2 k)) k := by
  have e : val_main_v21 x0 x1 (ix3 b p k)
      = val_main_v0 x0 (ix3 b p k) + val_main_v9 x0 (ix3 b p k) * x1 (ix3 0 2 k) :=
    v21_at x1 (val_main_v0 x0) (val_main_v9 x0) b p k
  rw [e, v0_apply, v9_apply]
  rfl

theorem v30_at (A : FVec Ideal S4x8192x1024 .f32) (b : Fin 4) (p : Fin 8192) (j : Fin 1024) :
    Host.dotGeneral (φ₂ := .f32) dot_S4x8192x1024_S1024x1024_S4x8192x1024_2_0_01_1_n_n none A (val_main_v29 x2) (ix3 b p j)
      = ∑ k : Fin 1024, A (ix3 b p k) * x2 (ix4 0 1 k j) := by
  pointwise [val_main_v29, val_main_v28]

/-- The keys. -/
theorem v37_apply (s : Fin 32768) (j : Fin 1024) : val_main_v37 x0 x1 x2 (ix2 s j)
    = val (fun n k => x0 (ix2 n k)) (fun x k => x1 (ix3 0 x k)) (fun a k j => x2 (ix4 0 a k j)) 2 1 s.val j := by
  have hs := s.isLt
  have e : val_main_v37 x0 x1 x2 (ix2 s j)
      = val_main_v30 x0 x1 x2 (ix3 ⟨s.val / 8192, by omega⟩ ⟨s.val % 8192, by omega⟩ j) := by
    pointwise [val_main_v37]
  have d : val_main_v30 x0 x1 x2 (ix3 ⟨s.val / 8192, by omega⟩ ⟨s.val % 8192, by omega⟩ j)
      = ∑ k : Fin 1024, val_main_v21 x0 x1 (ix3 ⟨s.val / 8192, by omega⟩ ⟨s.val % 8192, by omega⟩ k) * x2 (ix4 0 1 k j) :=
    v30_at x2 (val_main_v21 x0 x1) _ _ j
  rw [e, d]
  unfold val proj
  refine Finset.sum_congr rfl fun k _ => congrArg (· * _) ?_
  rw [v21_apply, (by omega : 8192 * (s.val / 8192) + s.val % 8192 = s.val)]
  rfl

theorem v27_at (A B : FVec Ideal S4x8192x1024 .f32) (b : Fin 4) (p : Fin 8192) (k : Fin 1024) :
    addf A (mulf B (val_main_v25 x1)) (ix3 b p k) = A (ix3 b p k) + B (ix3 b p k) * x1 (ix3 0 3 k) := by
  pointwise [val_main_v25, val_main_v24, val_main_v23, val_main_v22]

/-- The rows mixed for the values. -/
theorem v27_apply (b : Fin 4) (p : Fin 8192) (k : Fin 1024) : val_main_v27 x0 x1 (ix3 b p k)
    = mixed (rows x0) (8192 * b.val + p.val) (8192 * b.val + p.val) (fun k => x1 (ix3 0 3 k)) k := by
  have e : val_main_v27 x0 x1 (ix3 b p k)
      = val_main_v0 x0 (ix3 b p k) + val_main_v9 x0 (ix3 b p k) * x1 (ix3 0 3 k) :=
    v27_at x1 (val_main_v0 x0) (val_main_v9 x0) b p k
  rw [e, v0_apply, v9_apply]
  rfl

theorem v33_at (A : FVec Ideal S4x8192x1024 .f32) (b : Fin 4) (p : Fin 8192) (j : Fin 1024) :
    Host.dotGeneral (φ₂ := .f32) dot_S4x8192x1024_S1024x1024_S4x8192x1024_2_0_01_1_n_n none A (val_main_v32 x2) (ix3 b p j)
      = ∑ k : Fin 1024, A (ix3 b p k) * x2 (ix4 0 2 k j) := by
  pointwise [val_main_v32, val_main_v31]

/-- The values. -/
theorem v38_apply (s : Fin 32768) (j : Fin 1024) : val_main_v38 x0 x1 x2 (ix2 s j)
    = val (fun n k => x0 (ix2 n k)) (fun x k => x1 (ix3 0 x k)) (fun a k j => x2 (ix4 0 a k j)) 3 2 s.val j := by
  have hs := s.isLt
  have e : val_main_v38 x0 x1 x2 (ix2 s j)
      = val_main_v33 x0 x1 x2 (ix3 ⟨s.val / 8192, by omega⟩ ⟨s.val % 8192, by omega⟩ j) := by
    pointwise [val_main_v38]
  have d : val_main_v33 x0 x1 x2 (ix3 ⟨s.val / 8192, by omega⟩ ⟨s.val % 8192, by omega⟩ j)
      = ∑ k : Fin 1024, val_main_v27 x0 x1 (ix3 ⟨s.val / 8192, by omega⟩ ⟨s.val % 8192, by omega⟩ k) * x2 (ix4 0 2 k j) :=
    v33_at x2 (val_main_v27 x0 x1) _ _ j
  rw [e, d]
  unfold val proj
  refine Finset.sum_congr rfl fun k _ => congrArg (· * _) ?_
  rw [v27_apply, (by omega : 8192 * (s.val / 8192) + s.val % 8192 = s.val)]
  rfl

theorem v15_at (A B : FVec Ideal S4x8192x1024 .f32) (b : Fin 4) (p : Fin 8192) (k : Fin 1024) :
    addf A (mulf B (val_main_v13 x1)) (ix3 b p k) = A (ix3 b p k) + B (ix3 b p k) * x1 (ix3 0 0 k) := by
  pointwise [val_main_v13, val_main_v12, val_main_v11, val_main_v10]

/-- The rows mixed for the receptance. -/
theorem v15_apply (b : Fin 4) (p : Fin 8192) (k : Fin 1024) : val_main_v15 x0 x1 (ix3 b p k)
    = mixed (rows x0) (8192 * b.val + p.val) (8192 * b.val + p.val) (fun k => x1 (ix3 0 0 k)) k := by
  have e : val_main_v15 x0 x1 (ix3 b p k)
      = val_main_v0 x0 (ix3 b p k) + val_main_v9 x0 (ix3 b p k) * x1 (ix3 0 0 k) :=
    v15_at x1 (val_main_v0 x0) (val_main_v9 x0) b p k
  rw [e, v0_apply, v9_apply]
  rfl

theorem v36_at (A : FVec Ideal S4x8192x1024 .f32) (b : Fin 4) (p : Fin 8192) (j : Fin 1024) :
    Host.dotGeneral (φ₂ := .f32) dot_S4x8192x1024_S1024x1024_S4x8192x1024_2_0_01_1_n_n none A (val_main_v35 x2) (ix3 b p j)
      = ∑ k : Fin 1024, A (ix3 b p k) * x2 (ix4 0 0 k j) := by
  pointwise [val_main_v35, val_main_v34]

/-- The receptance. -/
theorem v39_apply (s : Fin 32768) (j : Fin 1024) : val_main_v39 x0 x1 x2 (ix2 s j)
    = val (fun n k => x0 (ix2 n k)) (fun x k => x1 (ix3 0 x k)) (fun a k j => x2 (ix4 0 a k j)) 0 0 s.val j := by
  have hs := s.isLt
  have e : val_main_v39 x0 x1 x2 (ix2 s j)
      = val_main_v36 x0 x1 x2 (ix3 ⟨s.val / 8192, by omega⟩ ⟨s.val % 8192, by omega⟩ j) := by
    pointwise [val_main_v39]
  have d : val_main_v36 x0 x1 x2 (ix3 ⟨s.val / 8192, by omega⟩ ⟨s.val % 8192, by omega⟩ j)
      = ∑ k : Fin 1024, val_main_v15 x0 x1 (ix3 ⟨s.val / 8192, by omega⟩ ⟨s.val % 8192, by omega⟩ k) * x2 (ix4 0 0 k j) :=
    v36_at x2 (val_main_v15 x0 x1) _ _ j
  rw [e, d]
  unfold val proj
  refine Finset.sum_congr rfl fun k _ => congrArg (· * _) ?_
  rw [v15_apply, (by omega : 8192 * (s.val / 8192) + s.val % 8192 = s.val)]
  rfl

end Cert.Own.PrepRef

end
-- ==== Proof.Prep.Claim.lean ====
/- The projections' kernel and its reference leave equal keys, values and receptances, element by element over the extended reals. -/
module

public import proofs.«01_k».proof.Defs
public import proofs.«01_k».proof.Proof.Prep.Array
public import proofs.«01_k».proof.Proof.Prep.Ref

@[expose] public section

set_option maxRecDepth 16384

noncomputable section

namespace Cert.Own.Prep

open Idealize.ShloMosaic Idealize.ShloMosaic.TcCoe Idealize.SL.Sem

theorem algebraic : Cert.algebraic_PrepIdeal_PrepRefIdeal := by
  intro m g m' g' _ hagree
  refine ⟨fun c i => out m c 2 1 (i 0) (i 1), fun c i => out m c 3 2 (i 0) (i 1), fun c i => out m c 0 0 (i 0) (i 1), ?_, ?_⟩
  · exact (θ_run Cert.PrepIdeal.defs _ _).mono (fun _ h c => ⟨(h c).1.trans (array12 m c), (h c).2.1.trans (array13 m c),
      (h c).2.2.2.1.trans (array15 m c), (h c).2.2.2.2.2.2.2.2.2.2⟩) (Cert.PrepIdeal.Value.run_blocks (F := Ideal) m g)
  · refine (θ_run Cert.PrepRefIdeal.defs _ _).mono (fun _ h c => ⟨(h c).1.trans ?_, (h c).2.1.trans ?_, (h c).2.2.1.trans ?_, (h c).2.2.2⟩)
      (Cert.PrepRefIdeal.Value.run (F := Ideal) m' g')
    · rw [Cert.PrepRefIdeal.Read.val_main_v37_eq]
      obtain ⟨h0, h1, h2, _⟩ := hagree c
      rw [h0, h1, h2]
      funext i
      idx_vars i
      exact Cert.Own.PrepRef.v37_apply _ _ _ i0 i1
    · rw [Cert.PrepRefIdeal.Read.val_main_v38_eq]
      obtain ⟨h0, h1, h2, _⟩ := hagree c
      rw [h0, h1, h2]
      funext i
      idx_vars i
      exact Cert.Own.PrepRef.v38_apply _ _ _ i0 i1
    · rw [Cert.PrepRefIdeal.Read.val_main_v39_eq]
      obtain ⟨h0, h1, h2, _⟩ := hagree c
      rw [h0, h1, h2]
      funext i
      idx_vars i
      exact Cert.Own.PrepRef.v39_apply _ _ _ i0 i1

end Cert.Own.Prep

end
-- ==== Proof.lean ====
module

public import proofs.«01_k».proof.Defs
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.Middle
public import proofs.«01_k».proof.Proof.Gen.Middle.Frame
public import proofs.«01_k».proof.Proof.Gen.MiddleIdeal
public import proofs.«01_k».proof.Proof.Gen.MiddleIdeal.Frame
public import proofs.«01_k».proof.Proof.Gen.MiddleIdeal.Value
public import proofs.«01_k».proof.Proof.Gen.MiddleRefIdeal
public import proofs.«01_k».proof.Proof.Gen.MiddleRefIdeal.Run
public import proofs.«01_k».proof.Proof.Gen.MiddleRefIdeal.Read
public import proofs.«01_k».proof.Proof.Gen.HyIn
public import proofs.«01_k».proof.Proof.Gen.HyIn.Frame
public import proofs.«01_k».proof.Proof.Gen.HyInIdeal
public import proofs.«01_k».proof.Proof.Gen.HyInIdeal.Frame
public import proofs.«01_k».proof.Proof.Gen.HyInIdeal.Value
public import proofs.«01_k».proof.Proof.Gen.HyInRefIdeal
public import proofs.«01_k».proof.Proof.Gen.HyInRefIdeal.Run
public import proofs.«01_k».proof.Proof.Gen.HyInRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Kernel
public import proofs.«01_k».proof.Proof.Gen.KernelIdeal
public import proofs.«01_k».proof.Proof.Gen.Pre_finite
public import proofs.«01_k».proof.Proof.Scan.Same
public import proofs.«01_k».proof.Proof.Ffn.FinalClaim
public import proofs.«01_k».proof.Proof.Ffn.FirstClaim
public import proofs.«01_k».proof.Proof.Ffn.MiddleClaim
public import proofs.«01_k».proof.Proof.HyIn.Claim
public import proofs.«01_k».proof.Proof.Mod.Claim
public import proofs.«01_k».proof.Proof.Prep.Claim
public import Idealize.ShloMosaic.Lib.Quiescent
public import Idealize.ShloMosaic.Adequacy
public import Idealize.ShloMosaic.Init

@[expose] public section

noncomputable section

namespace Cert.Proof

open Idealize.ShloMosaic Idealize.SL.Sem

/-- The recurrence's call ends, leaves its arguments alone and every counter at zero: the two programs have one text, so
    the run over any float values serves both. -/
theorem frameKernel : Cert.quiescent_Kernel := fun m ρ _ =>
  Cert.Own.Scan.frame_kernel (F := Bits) m ρ

/-- The reference of Final ends, leaves its arguments alone and every counter at zero. -/
theorem frameRefFinal : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- The reference of First ends, leaves its arguments alone and every counter at zero. -/
theorem frameRefFirst : Cert.quiescent_FirstRefIdeal := fun m ρ _ =>
  (θ_run Cert.FirstRefIdeal.defs _ _).mono (fun r h => ⟨fun c => (h c).2.2, sem_eq_zero_of_no_sems (by decide) r.2⟩)
    (Cert.FirstRefIdeal.Value.run (F := Ideal) m ρ)

/-- The reference of Middle ends, leaves its arguments alone and every counter at zero. -/
theorem frameRefMiddle : Cert.quiescent_MiddleRefIdeal := fun m ρ _ =>
  (θ_run Cert.MiddleRefIdeal.defs _ _).mono (fun r h => ⟨fun c => (h c).2, sem_eq_zero_of_no_sems (by decide) r.2⟩)
    (Cert.MiddleRefIdeal.Value.run (F := Ideal) m ρ)

/-- The reference of HyIn ends, leaves its arguments alone and every counter at zero. -/
theorem frameRefHyIn : Cert.quiescent_HyInRefIdeal := fun m ρ _ =>
  (θ_run Cert.HyInRefIdeal.defs _ _).mono (fun r h => ⟨fun c => (h c).2.2.2, sem_eq_zero_of_no_sems (by decide) r.2⟩)
    (Cert.HyInRefIdeal.Value.run (F := Ideal) m ρ)

/-- The reference of Mod ends, leaves its arguments alone and every counter at zero. -/
theorem frameRefMod : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The reference of Prep ends, leaves its arguments alone and every counter at zero. -/
theorem frameRefPrep : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

theorem claim : Cert.Claim :=
  ⟨Cert.Kernel.Gen.facts,
    Cert.KernelIdeal.Gen.facts,
    Cert.Final.Gen.facts,
    Cert.FinalIdeal.Gen.facts,
    Cert.FinalRefIdeal.Gen.facts,
    Cert.First.Gen.facts,
    Cert.FirstIdeal.Gen.facts,
    Cert.FirstRefIdeal.Gen.facts,
    Cert.Middle.Gen.facts,
    Cert.MiddleIdeal.Gen.facts,
    Cert.MiddleRefIdeal.Gen.facts,
    Cert.HyIn.Gen.facts,
    Cert.HyInIdeal.Gen.facts,
    Cert.HyInRefIdeal.Gen.facts,
    Cert.Mod.Gen.facts,
    Cert.ModIdeal.Gen.facts,
    Cert.ModRefIdeal.Gen.facts,
    Cert.Prep.Gen.facts,
    Cert.PrepIdeal.Gen.facts,
    Cert.PrepRefIdeal.Gen.facts,
    Cert.Pre_finite.Gen.facts,
    frameKernel,
    fun m ρ _ => Cert.Own.Scan.frame m ρ,
    fun m ρ _ => Cert.Final.Gen.frame m ρ,
    fun m ρ _ => Cert.FinalIdeal.Gen.frame m ρ,
    frameRefFinal,
    fun m ρ _ => Cert.First.Gen.frame m ρ,
    fun m ρ _ => Cert.FirstIdeal.Gen.frame m ρ,
    frameRefFirst,
    fun m ρ _ => Cert.Middle.Gen.frame m ρ,
    fun m ρ _ => Cert.MiddleIdeal.Gen.frame m ρ,
    fun m ρ _ => Cert.MiddleIdeal.Gen.frame m ρ,
    frameRefMiddle,
    fun m ρ _ => frameRefMiddle m ρ trivial,
    fun m ρ _ => Cert.HyIn.Gen.frame m ρ,
    fun m ρ _ => Cert.HyInIdeal.Gen.frame m ρ,
    frameRefHyIn,
    fun m ρ _ => Cert.Mod.Gen.frame m ρ,
    fun m ρ _ => Cert.ModIdeal.Gen.frame m ρ,
    frameRefMod,
    fun m ρ _ => Cert.Prep.Gen.frame m ρ,
    fun m ρ _ => Cert.PrepIdeal.Gen.frame m ρ,
    frameRefPrep,
    trivial,
    trivial,
    Cert.Own.Final.algebraic,
    trivial,
    Cert.Own.First.algebraic,
    trivial,
    Cert.Own.Middle.algebraic,
    trivial,
    Cert.Own.HyIn.algebraic,
    trivial,
    Cert.Own.Mod.algebraic,
    trivial,
    Cert.Own.Prep.algebraic⟩

end Cert.Proof

end
